-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x10496 : Shape := ⟨3, ![64, 1, 10496]⟩
abbrev S24448x5248 : Shape := ⟨2, ![24448, 5248]⟩
abbrev S24448x328 : Shape := ⟨2, ![24448, 328]⟩
abbrev S64x10496 : Shape := ⟨2, ![64, 10496]⟩
abbrev S328x24448 : Shape := ⟨2, ![328, 24448]⟩
abbrev S64x24448 : Shape := ⟨2, ![64, 24448]⟩
abbrev S512x5248 : Shape := ⟨2, ![512, 5248]⟩
abbrev S328x512 : Shape := ⟨2, ![328, 512]⟩
abbrev S64x512 : Shape := ⟨2, ![64, 512]⟩
abbrev S256x256 : Shape := ⟨2, ![256, 256]⟩
abbrev S64x256 : Shape := ⟨2, ![64, 256]⟩
abbrev S128x128 : Shape := ⟨2, ![128, 128]⟩
abbrev S256x128 : Shape := ⟨2, ![256, 128]⟩
abbrev S1x128 : Shape := ⟨2, ![1, 128]⟩
abbrev S16x128 : Shape := ⟨2, ![16, 128]⟩
abbrev S32x128 : Shape := ⟨2, ![32, 128]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S64x1x10496, .bf16⟩
  | .hbm, ⟨1, _⟩ => ⟨S24448x5248, .i8⟩
  | .hbm, ⟨2, _⟩ => ⟨S24448x328, .i8⟩
  | .hbm, ⟨3, _⟩ => ⟨S64x10496, .bf16⟩
  | .hbm, ⟨4, _⟩ => ⟨S328x24448, .i8⟩
  | .hbm, ⟨5, _⟩ => ⟨S64x24448, .bf16⟩
  | .local _ .vmem, ⟨0, _⟩ => ⟨S64x10496, .bf16⟩
  | .local _ .vmem, ⟨1, _⟩ => ⟨S512x5248, .i8⟩
  | .local _ .vmem, ⟨2, _⟩ => ⟨S512x5248, .i8⟩
  | .local _ .vmem, ⟨3, _⟩ => ⟨S328x512, .i8⟩
  | .local _ .vmem, ⟨4, _⟩ => ⟨S328x512, .i8⟩
  | .local _ .vmem, ⟨5, _⟩ => ⟨S64x512, .bf16⟩
  | .local _ .vmem, ⟨6, _⟩ => ⟨S64x512, .bf16⟩
  | .local _ .vmem, ⟨7, _⟩ => ⟨S64x10496, .bf16⟩
  | .local _ .vmem, ⟨8, _⟩ => ⟨S328x512, .i32⟩
  | _, _ => ⟨S64x1x10496, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x10496 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5248 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S328x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x1x10496 : Shape := ⟨3, ![64, 1, 10496]⟩
abbrev S24448x5248 : Shape := ⟨2, ![24448, 5248]⟩
abbrev S24448x328 : Shape := ⟨2, ![24448, 328]⟩
abbrev S_ : Shape := ⟨0, ![]⟩
abbrev S24448x328x16 : Shape := ⟨3, ![24448, 328, 16]⟩
abbrev S64x1x328x2x16 : Shape := ⟨5, ![64, 1, 328, 2, 16]⟩
abbrev S64x1x328x1x16 : Shape := ⟨5, ![64, 1, 328, 1, 16]⟩
abbrev S64x1x328x16 : Shape := ⟨4, ![64, 1, 328, 16]⟩
abbrev S64x1x5248 : Shape := ⟨3, ![64, 1, 5248]⟩
abbrev S64x1x24448 : Shape := ⟨3, ![64, 1, 24448]⟩
abbrev S64x24448 : Shape := ⟨2, ![64, 24448]⟩

abbrev nBuf : Space → Nat
  | .hbm => 145
  | .vmem => 0
  | .smem => 0
  | _ => 0

abbrev hbmTy0_0 (i : Nat) : BufTy := match i % 128 with
  | 0 => ⟨S64x1x10496, .bf16⟩
  | 1 => ⟨S24448x5248, .i8⟩
  | 2 => ⟨S24448x328, .i8⟩
  | 3 => ⟨S24448x328, .i32⟩
  | 4 => ⟨S_, .i32⟩
  | 5 => ⟨S24448x328, .i32⟩
  | 6 => ⟨S24448x328, .i32⟩
  | 7 => ⟨S24448x328, .f32⟩
  | 8 => ⟨S_, .f32⟩
  | 9 => ⟨S24448x328, .f32⟩
  | 10 => ⟨S24448x328, .f32⟩
  | 11 => ⟨S_, .i32⟩
  | 12 => ⟨S24448x328, .i32⟩
  | 13 => ⟨S24448x328, .i1⟩
  | 14 => ⟨S_, .i32⟩
  | 15 => ⟨S24448x328, .i32⟩
  | 16 => ⟨S24448x328, .i1⟩
  | 17 => ⟨S_, .f32⟩
  | 18 => ⟨S24448x328, .f32⟩
  | 19 => ⟨S24448x328, .f32⟩
  | 20 => ⟨S_, .f32⟩
  | 21 => ⟨S24448x328, .f32⟩
  | 22 => ⟨S24448x328, .f32⟩
  | 23 => ⟨S24448x328, .bf16⟩
  | 24 => ⟨S24448x328x16, .bf16⟩
  | 25 => ⟨S24448x5248, .bf16⟩
  | 26 => ⟨S24448x5248, .i32⟩
  | 27 => ⟨S_, .i32⟩
  | 28 => ⟨S24448x5248, .i32⟩
  | 29 => ⟨S24448x5248, .i32⟩
  | 30 => ⟨S_, .i32⟩
  | 31 => ⟨S24448x5248, .i32⟩
  | 32 => ⟨S24448x5248, .i32⟩
  | 33 => ⟨S_, .i32⟩
  | 34 => ⟨S24448x5248, .i32⟩
  | 35 => ⟨S24448x5248, .i1⟩
  | 36 => ⟨S_, .i32⟩
  | 37 => ⟨S24448x5248, .i32⟩
  | 38 => ⟨S24448x5248, .i32⟩
  | 39 => ⟨S_, .i32⟩
  | 40 => ⟨S24448x5248, .i32⟩
  | 41 => ⟨S24448x5248, .i1⟩
  | 42 => ⟨S_, .i32⟩
  | 43 => ⟨S24448x5248, .i32⟩
  | 44 => ⟨S24448x5248, .i32⟩
  | 45 => ⟨S_, .i32⟩
  | 46 => ⟨S24448x5248, .i32⟩
  | 47 => ⟨S24448x5248, .i1⟩
  | 48 => ⟨S_, .i32⟩
  | 49 => ⟨S24448x5248, .i32⟩
  | 50 => ⟨S24448x5248, .i32⟩
  | 51 => ⟨S_, .i32⟩
  | 52 => ⟨S24448x5248, .i32⟩
  | 53 => ⟨S24448x5248, .i1⟩
  | 54 => ⟨S_, .bf16⟩
  | 55 => ⟨S_, .bf16⟩
  | 56 => ⟨S24448x5248, .bf16⟩
  | 57 => ⟨S24448x5248, .bf16⟩
  | 58 => ⟨S24448x5248, .bf16⟩
  | 59 => ⟨S_, .bf16⟩
  | 60 => ⟨S_, .bf16⟩
  | 61 => ⟨S24448x5248, .bf16⟩
  | 62 => ⟨S24448x5248, .bf16⟩
  | 63 => ⟨S24448x5248, .bf16⟩
  | 64 => ⟨S_, .bf16⟩
  | 65 => ⟨S_, .bf16⟩
  | 66 => ⟨S24448x5248, .bf16⟩
  | 67 => ⟨S24448x5248, .bf16⟩
  | 68 => ⟨S24448x5248, .bf16⟩
  | 69 => ⟨S_, .bf16⟩
  | 70 => ⟨S_, .bf16⟩
  | 71 => ⟨S24448x5248, .bf16⟩
  | 72 => ⟨S24448x5248, .bf16⟩
  | 73 => ⟨S24448x5248, .bf16⟩
  | 74 => ⟨S24448x5248, .bf16⟩
  | 75 => ⟨S24448x5248, .bf16⟩
  | 76 => ⟨S24448x5248, .bf16⟩
  | 77 => ⟨S24448x5248, .bf16⟩
  | 78 => ⟨S24448x5248, .bf16⟩
  | 79 => ⟨S24448x5248, .bf16⟩
  | 80 => ⟨S_, .i32⟩
  | 81 => ⟨S24448x5248, .i32⟩
  | 82 => ⟨S24448x5248, .i32⟩
  | 83 => ⟨S_, .i32⟩
  | 84 => ⟨S24448x5248, .i32⟩
  | 85 => ⟨S24448x5248, .i32⟩
  | 86 => ⟨S_, .i32⟩
  | 87 => ⟨S24448x5248, .i32⟩
  | 88 => ⟨S24448x5248, .i1⟩
  | 89 => ⟨S_, .i32⟩
  | 90 => ⟨S24448x5248, .i32⟩
  | 91 => ⟨S24448x5248, .i32⟩
  | 92 => ⟨S_, .i32⟩
  | 93 => ⟨S24448x5248, .i32⟩
  | 94 => ⟨S24448x5248, .i1⟩
  | 95 => ⟨S_, .i32⟩
  | 96 => ⟨S24448x5248, .i32⟩
  | 97 => ⟨S24448x5248, .i32⟩
  | 98 => ⟨S_, .i32⟩
  | 99 => ⟨S24448x5248, .i32⟩
  | 100 => ⟨S24448x5248, .i1⟩
  | 101 => ⟨S_, .i32⟩
  | 102 => ⟨S24448x5248, .i32⟩
  | 103 => ⟨S24448x5248, .i32⟩
  | 104 => ⟨S_, .i32⟩
  | 105 => ⟨S24448x5248, .i32⟩
  | 106 => ⟨S24448x5248, .i1⟩
  | 107 => ⟨S_, .bf16⟩
  | 108 => ⟨S_, .bf16⟩
  | 109 => ⟨S24448x5248, .bf16⟩
  | 110 => ⟨S24448x5248, .bf16⟩
  | 111 => ⟨S24448x5248, .bf16⟩
  | 112 => ⟨S_, .bf16⟩
  | 113 => ⟨S_, .bf16⟩
  | 114 => ⟨S24448x5248, .bf16⟩
  | 115 => ⟨S24448x5248, .bf16⟩
  | 116 => ⟨S24448x5248, .bf16⟩
  | 117 => ⟨S_, .bf16⟩
  | 118 => ⟨S_, .bf16⟩
  | 119 => ⟨S24448x5248, .bf16⟩
  | 120 => ⟨S24448x5248, .bf16⟩
  | 121 => ⟨S24448x5248, .bf16⟩
  | 122 => ⟨S_, .bf16⟩
  | 123 => ⟨S_, .bf16⟩
  | 124 => ⟨S24448x5248, .bf16⟩
  | 125 => ⟨S24448x5248, .bf16⟩
  | 126 => ⟨S24448x5248, .bf16⟩
  | 127 => ⟨S24448x5248, .bf16⟩
  | _ => ⟨S64x1x10496, .bf16⟩

abbrev hbmTy0_1 (i : Nat) : BufTy := match i % 128 with
  | 0 => ⟨S24448x5248, .bf16⟩
  | 1 => ⟨S24448x5248, .bf16⟩
  | 2 => ⟨S24448x5248, .bf16⟩
  | 3 => ⟨S24448x5248, .bf16⟩
  | 4 => ⟨S24448x5248, .bf16⟩
  | 5 => ⟨S64x1x328x2x16, .bf16⟩
  | 6 => ⟨S64x1x328x1x16, .bf16⟩
  | 7 => ⟨S64x1x328x16, .bf16⟩
  | 8 => ⟨S64x1x5248, .bf16⟩
  | 9 => ⟨S64x1x328x1x16, .bf16⟩
  | 10 => ⟨S64x1x328x16, .bf16⟩
  | 11 => ⟨S64x1x5248, .bf16⟩
  | 12 => ⟨S64x1x24448, .f32⟩
  | 13 => ⟨S64x1x24448, .f32⟩
  | 14 => ⟨S64x1x24448, .f32⟩
  | 15 => ⟨S64x1x24448, .bf16⟩
  | 16 => ⟨S64x24448, .bf16⟩
  | _ => ⟨S64x1x10496, .bf16⟩

abbrev hbmTy (i : Nat) : BufTy := match i / 128 with
  | 0 => hbmTy0_0 i
  | 1 => hbmTy0_1 i
  | _ => ⟨S64x1x10496, .bf16⟩

abbrev bufTy : (tb : Table) → Fin (tcTables nBuf tb) → BufTy
  | .hbm, ⟨i, _⟩ => hbmTy i
  | _, _ => ⟨S64x1x10496, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_v10 : Ref sig .tc := ⟨.hbm, 19, rfl⟩
abbrev main_cst_3 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_c_8 : Ref sig .tc := ⟨.hbm, 39, rfl⟩
abbrev main_v24 : Ref sig .tc := ⟨.hbm, 40, rfl⟩
abbrev main_v25 : Ref sig .tc := ⟨.hbm, 41, rfl⟩
abbrev main_c_9 : Ref sig .tc := ⟨.hbm, 42, rfl⟩
abbrev main_v26 : Ref sig .tc := ⟨.hbm, 43, rfl⟩
abbrev main_v27 : Ref sig .tc := ⟨.hbm, 44, rfl⟩
abbrev main_c_10 : Ref sig .tc := ⟨.hbm, 45, rfl⟩
abbrev main_v28 : Ref sig .tc := ⟨.hbm, 46, rfl⟩
abbrev main_v29 : Ref sig .tc := ⟨.hbm, 47, rfl⟩
abbrev main_c_11 : Ref sig .tc := ⟨.hbm, 48, rfl⟩
abbrev main_v30 : Ref sig .tc := ⟨.hbm, 49, rfl⟩
abbrev main_v31 : Ref sig .tc := ⟨.hbm, 50, rfl⟩
abbrev main_c_12 : Ref sig .tc := ⟨.hbm, 51, rfl⟩
abbrev main_v32 : Ref sig .tc := ⟨.hbm, 52, rfl⟩
abbrev main_v33 : Ref sig .tc := ⟨.hbm, 53, rfl⟩
abbrev main_cst_13 : Ref sig .tc := ⟨.hbm, 54, rfl⟩
abbrev main_cst_14 : Ref sig .tc := ⟨.hbm, 55, rfl⟩
abbrev main_call2_v0 : Ref sig .tc := ⟨.hbm, 56, rfl⟩
abbrev main_call2_v1 : Ref sig .tc := ⟨.hbm, 57, rfl⟩
abbrev main_v34 : Ref sig .tc := ⟨.hbm, 58, rfl⟩
abbrev main_cst_15 : Ref sig .tc := ⟨.hbm, 59, rfl⟩
abbrev main_cst_16 : Ref sig .tc := ⟨.hbm, 60, rfl⟩
abbrev main_call3_v0 : Ref sig .tc := ⟨.hbm, 61, rfl⟩
abbrev main_call3_v1 : Ref sig .tc := ⟨.hbm, 62, rfl⟩
abbrev main_v35 : Ref sig .tc := ⟨.hbm, 63, rfl⟩
abbrev main_cst_17 : Ref sig .tc := ⟨.hbm, 64, rfl⟩
abbrev main_cst_18 : Ref sig .tc := ⟨.hbm, 65, rfl⟩
abbrev main_call4_v0 : Ref sig .tc := ⟨.hbm, 66, rfl⟩
abbrev main_call4_v1 : Ref sig .tc := ⟨.hbm, 67, rfl⟩
abbrev main_v36 : Ref sig .tc := ⟨.hbm, 68, rfl⟩
abbrev main_cst_19 : Ref sig .tc := ⟨.hbm, 69, rfl⟩
abbrev main_cst_20 : Ref sig .tc := ⟨.hbm, 70, rfl⟩
abbrev main_call5_v0 : Ref sig .tc := ⟨.hbm, 71, rfl⟩
abbrev main_call5_v1 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_21 : Ref sig .tc := ⟨.hbm, 80, rfl⟩
abbrev main_v44 : Ref sig .tc := ⟨.hbm, 81, rfl⟩
abbrev main_v45 : Ref sig .tc := ⟨.hbm, 82, rfl⟩
abbrev main_c_22 : Ref sig .tc := ⟨.hbm, 83, rfl⟩
abbrev main_v46 : Ref sig .tc := ⟨.hbm, 84, rfl⟩
abbrev main_v47 : Ref sig .tc := ⟨.hbm, 85, rfl⟩
abbrev main_c_23 : Ref sig .tc := ⟨.hbm, 86, rfl⟩
abbrev main_v48 : Ref sig .tc := ⟨.hbm, 87, rfl⟩
abbrev main_v49 : Ref sig .tc := ⟨.hbm, 88, rfl⟩
abbrev main_c_24 : Ref sig .tc := ⟨.hbm, 89, rfl⟩
abbrev main_v50 : Ref sig .tc := ⟨.hbm, 90, rfl⟩
abbrev main_v51 : Ref sig .tc := ⟨.hbm, 91, rfl⟩
abbrev main_c_25 : Ref sig .tc := ⟨.hbm, 92, rfl⟩
abbrev main_v52 : Ref sig .tc := ⟨.hbm, 93, rfl⟩
abbrev main_v53 : Ref sig .tc := ⟨.hbm, 94, rfl⟩
abbrev main_c_26 : Ref sig .tc := ⟨.hbm, 95, rfl⟩
abbrev main_v54 : Ref sig .tc := ⟨.hbm, 96, rfl⟩
abbrev main_v55 : Ref sig .tc := ⟨.hbm, 97, rfl⟩
abbrev main_c_27 : Ref sig .tc := ⟨.hbm, 98, rfl⟩
abbrev main_v56 : Ref sig .tc := ⟨.hbm, 99, rfl⟩
abbrev main_v57 : Ref sig .tc := ⟨.hbm, 100, rfl⟩
abbrev main_c_28 : Ref sig .tc := ⟨.hbm, 101, rfl⟩
abbrev main_v58 : Ref sig .tc := ⟨.hbm, 102, rfl⟩
abbrev main_v59 : Ref sig .tc := ⟨.hbm, 103, rfl⟩
abbrev main_c_29 : Ref sig .tc := ⟨.hbm, 104, rfl⟩
abbrev main_v60 : Ref sig .tc := ⟨.hbm, 105, rfl⟩
abbrev main_v61 : Ref sig .tc := ⟨.hbm, 106, rfl⟩
abbrev main_cst_30 : Ref sig .tc := ⟨.hbm, 107, rfl⟩
abbrev main_cst_31 : Ref sig .tc := ⟨.hbm, 108, rfl⟩
abbrev main_call10_v0 : Ref sig .tc := ⟨.hbm, 109, rfl⟩
abbrev main_call10_v1 : Ref sig .tc := ⟨.hbm, 110, rfl⟩
abbrev main_v62 : Ref sig .tc := ⟨.hbm, 111, rfl⟩
abbrev main_cst_32 : Ref sig .tc := ⟨.hbm, 112, rfl⟩
abbrev main_cst_33 : Ref sig .tc := ⟨.hbm, 113, rfl⟩
abbrev main_call11_v0 : Ref sig .tc := ⟨.hbm, 114, rfl⟩
abbrev main_call11_v1 : Ref sig .tc := ⟨.hbm, 115, rfl⟩
abbrev main_v63 : Ref sig .tc := ⟨.hbm, 116, rfl⟩
abbrev main_cst_34 : Ref sig .tc := ⟨.hbm, 117, rfl⟩
abbrev main_cst_35 : Ref sig .tc := ⟨.hbm, 118, rfl⟩
abbrev main_call12_v0 : Ref sig .tc := ⟨.hbm, 119, rfl⟩
abbrev main_call12_v1 : Ref sig .tc := ⟨.hbm, 120, rfl⟩
abbrev main_v64 : Ref sig .tc := ⟨.hbm, 121, rfl⟩
abbrev main_cst_36 : Ref sig .tc := ⟨.hbm, 122, rfl⟩
abbrev main_cst_37 : Ref sig .tc := ⟨.hbm, 123, rfl⟩
abbrev main_call13_v0 : Ref sig .tc := ⟨.hbm, 124, rfl⟩
abbrev main_call13_v1 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩

abbrev nD : Nat := 1
abbrev τ : Topo := Topo.v7x

variable {F : FTy → Type} [FloatOps F]
-- ==== Proof.Eval.lean ====
/-
  Running a kernel body over six buffers by state passing.

  A core owns six memrefs, each in full and at known contents.  `Runs X p Y a` says that the program `p`, started
  at the contents `X`, ends at the contents `Y` with the value `a`.  A load from any of the six and an unmasked
  store to any of the last three have a rule each (`Runs.load1` … `Runs.store6`); a run of a sequence is a run of
  its head followed by a run of its tail, so a straight-line body is run by applying the rules one after another.
-/
module

public import Idealize.ShloMosaic.Lib.Memref
public import Idealize.ShloMosaic.Rules
public import Idealize.ShloMosaic.Lib.Pipeline.KitQuiescent
public import Idealize.ShloMosaic.Lib.Tactic

@[expose] public section

noncomputable section

namespace Mx

open Idealize.ShloMosaic
open Idealize.SL
open Idealize.SL.RA
open Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
local notation "𝕄" => MT nD τ sig Unit Val ℕ (UR sig nD τ) ℕ

/-- The elements of an array under a rectangle. -/
def get {s : Shape} {α : Type} (X : s.Idx → α) (r : LoadRect s) : r.shape.Idx → α := fun j => X (r.idx j)

/-- The array with the elements under a rectangle replaced. -/
def put {s : Shape} {α : Type} (X : s.Idx → α) (r : Rect s) (w : r.shape.Idx → α) : s.Idx → α := fun i =>
  match preimage? r.emb i with
  | some x => w x
  | none => X i

theorem put_emb {s : Shape} {α : Type} (X : s.Idx → α) (r : Rect s) (w : r.shape.Idx → α) (x : r.shape.Idx) :
    put X r w (r.emb x) = w x := by
  simp only [put, preimage?_emb]

theorem put_of_ne {s : Shape} {α : Type} (X : s.Idx → α) (r : Rect s) (w : r.shape.Idx → α) (i : s.Idx)
    (h : ∀ x, r.emb x ≠ i) : put X r w i = X i := by
  simp only [put, preimage?_eq_none h]

section Rules

variable {defs : Defs nD τ sig Val Λ} (𝒱 : Variants) (c : Dev nD)

theorem read_write {s : Shape} {e : EltTy} (m : Memref sig .tc .vmem s e) (r : Rect s) (f : m.view.ty.Contents Val)
    (w : r.shape.Idx → Val e) :
    m.view.read Val ((m.access r).write Val f w Finset.univ) = put (m.view.read Val f) r w := by
  funext i
  by_cases h : ∃ x, r.emb x = i
  · obtain ⟨x, rfl⟩ := h
    rw [put_emb]
    exact View.read_slice_write_emb r f w (Finset.mem_univ x)
  · rw [put_of_ne _ _ _ _ fun x hx => h ⟨x, hx⟩]
    refine View.read_slice_write_of_not_mem r f w Finset.univ fun hi => h ?_
    obtain ⟨x, -, hx⟩ := Finset.mem_map.mp hi
    exact ⟨x, hx⟩

/-- A load leaves the contents and continues with the elements under its rectangle. -/
theorem wp_load_owns {α : Type} {E : Set ℕ} {Q : α → sProp 𝕄} {s : Shape} {e : EltTy}
    (m : Memref sig .tc .vmem s e) (q : PosShare TreeShare) (X : s.Idx → Val e) (r : LoadRect s) (hl : m.view.LoadsAt r)
    (k : (r.shape.Idx → Val e) → Prog (TpuEff nD τ sig Val Λ .tc) α) :
    (owns c.tc m q X : sProp 𝕄)
      ⊢ iprop((owns c.tc m q X -∗ wp frame (wpE defs 𝒱 c.tc none) E (k (get X r)) Q)
          -∗ wp frame (wpE defs 𝒱 c.tc none) E (.op (.load m r hl) k) Q) := by
  unfold owns
  iintro ⟨%f, %hf, Hf⟩ Hk
  iapply (wp_load (defs := defs) 𝒱 c.tc none (Γ := []) E (m := m) (r := r) (hl := hl) (k := k) (q := q) (f := f)
    (S := m.view.set) (View.setOn_subset_set _ _)) $$ [Hf]
  · iexact Hf
  · iintro Hf
    have h : m.view.readAt Val r f = get X r := by rw [← hf]; rfl
    rw [h]
    iapply Hk
    iexists f
    isplitr
    · ipureintro; exact hf
    · iexact Hf

/-- An unmasked store replaces the elements under its rectangle. -/
theorem wp_store_owns {α : Type} {E : Set ℕ} {Q : α → sProp 𝕄} {s : Shape} {e : EltTy}
    (m : Memref sig .tc .vmem s e) (X : s.Idx → Val e) (r : Rect s) (w : r.shape.Idx → Val e)
    (hx : (m.access r).Stores Finset.univ) (hm : Finset.univ = Finset.univ ∨ ∀ a, r.stride a = 1)
    (k : PUnit → Prog (TpuEff nD τ sig Val Λ .tc) α) :
    (owns c.tc m fullShare X : sProp 𝕄)
      ⊢ iprop((owns c.tc m fullShare (put X r w) -∗ wp frame (wpE defs 𝒱 c.tc none) E (k ⟨⟩) Q)
          -∗ wp frame (wpE defs 𝒱 c.tc none) E (.op (.store m r w Finset.univ hx hm) k) Q) := by
  unfold owns
  iintro ⟨%f, %hf, Hf⟩ Hk
  iapply (wp_store (defs := defs) 𝒱 c.tc none (Γ := []) E (m := m) (r := r) (w := w) (Mk := Finset.univ) (hx := hx)
    (hm := hm) (k := k) (f := f) (S := m.view.set)
    ((View.setOn_subset_set _ _).trans (View.set_slice_subset _ r))) $$ [Hf]
  · iexact Hf
  · iintro Hf
    iapply Hk
    iexists ((m.access r).write Val f w Finset.univ)
    isplitr
    · ipureintro; rw [← hf]; exact read_write m r f w
    · iexact Hf

section Six

variable {s1 s2 s3 s4 s5 s6 : Shape} {e1 e2 e3 e4 e5 e6 : EltTy}
variable {m1 : Memref sig .tc .vmem s1 e1} {m2 : Memref sig .tc .vmem s2 e2} {m3 : Memref sig .tc .vmem s3 e3}
variable {m4 : Memref sig .tc .vmem s4 e4} {m5 : Memref sig .tc .vmem s5 e5} {m6 : Memref sig .tc .vmem s6 e6}
variable {X1 : s1.Idx → Val e1} {X2 : s2.Idx → Val e2} {X3 : s3.Idx → Val e3}
variable {X4 Y4 Z4 : s4.Idx → Val e4} {X5 Y5 Z5 : s5.Idx → Val e5} {X6 Y6 Z6 : s6.Idx → Val e6}

/-- Six memrefs held in full at given contents. -/
def held (c : Dev nD) (m1 : Memref sig .tc .vmem s1 e1) (m2 : Memref sig .tc .vmem s2 e2)
    (m3 : Memref sig .tc .vmem s3 e3) (m4 : Memref sig .tc .vmem s4 e4) (m5 : Memref sig .tc .vmem s5 e5)
    (m6 : Memref sig .tc .vmem s6 e6) (X1 : s1.Idx → Val e1) (X2 : s2.Idx → Val e2) (X3 : s3.Idx → Val e3)
    (X4 : s4.Idx → Val e4) (X5 : s5.Idx → Val e5) (X6 : s6.Idx → Val e6) : sProp 𝕄 :=
  iprop(owns c.tc m1 fullShare X1 ∗ owns c.tc m2 fullShare X2 ∗ owns c.tc m3 fullShare X3
    ∗ owns c.tc m4 fullShare X4 ∗ owns c.tc m5 fullShare X5 ∗ owns c.tc m6 fullShare X6)

/-- The program `p` takes the contents `X` of the last three memrefs to `Y` and ends with the value `a`; the first
    three memrefs keep their contents. -/
@[irreducible] def Runs (defs : Defs nD τ sig Val Λ) (𝒱 : Variants) (c : Dev nD)
    (m1 : Memref sig .tc .vmem s1 e1) (m2 : Memref sig .tc .vmem s2 e2)
    (m3 : Memref sig .tc .vmem s3 e3) (m4 : Memref sig .tc .vmem s4 e4) (m5 : Memref sig .tc .vmem s5 e5)
    (m6 : Memref sig .tc .vmem s6 e6) (X1 : s1.Idx → Val e1) (X2 : s2.Idx → Val e2) (X3 : s3.Idx → Val e3)
    (X4 : s4.Idx → Val e4) (X5 : s5.Idx → Val e5) (X6 : s6.Idx → Val e6) {α : Type}
    (p : Prog (TpuEff nD τ sig Val Λ .tc) α)
    (Y4 : s4.Idx → Val e4) (Y5 : s5.Idx → Val e5) (Y6 : s6.Idx → Val e6) (a : α) : Prop :=
  ∀ (E : Set ℕ) (K : α → sProp 𝕄),
    iprop(held c m1 m2 m3 m4 m5 m6 X1 X2 X3 X4 X5 X6
        ∗ (held c m1 m2 m3 m4 m5 m6 X1 X2 X3 Y4 Y5 Y6 -∗ K a))
      ⊢ wp frame (wpE defs 𝒱 c.tc none) E p K

variable {𝒱 c} {α β : Type}

theorem Runs.wp {p : Prog (TpuEff nD τ sig Val Λ .tc) α} {a : α}
    (h : Runs defs 𝒱 c m1 m2 m3 m4 m5 m6 X1 X2 X3 X4 X5 X6 p Y4 Y5 Y6 a) (E : Set ℕ) (K : α → sProp 𝕄) :
    iprop(held c m1 m2 m3 m4 m5 m6 X1 X2 X3 X4 X5 X6
        ∗ (held c m1 m2 m3 m4 m5 m6 X1 X2 X3 Y4 Y5 Y6 -∗ K a))
      ⊢ Idealize.SL.Sem.wp frame (wpE defs 𝒱 c.tc none) E p K := by
  unfold Runs at h; exact h E K

theorem Runs.ret {a b : α} (h4 : X4 = Y4) (h5 : X5 = Y5) (h6 : X6 = Y6) (h : a = b) :
    Runs defs 𝒱 c m1 m2 m3 m4 m5 m6 X1 X2 X3 X4 X5 X6 (.ret a) Y4 Y5 Y6 b := by
  subst h4 h5 h6 h
  unfold Runs
  intro E K
  rw [wp_ret]
  iintro ⟨H, HK⟩
  imodintro
  iapply HK
  iexact H

/-- A conditional with no value at the head of a sequence: both branches go on with the same program, which is run
    once for all contents of the fifth memref, the only one the first branch changes. -/
theorem Runs.dite {γ δ : Type} {P : Prop} {inst : Decidable P} {A : P → Prog (TpuEff nD τ sig Val Λ .tc) γ}
    {B : Prog (TpuEff nD τ sig Val Λ .tc) γ} {k : γ → Prog (TpuEff nD τ sig Val Λ .tc) δ}
    {k' : δ → Prog (TpuEff nD τ sig Val Λ .tc) β} {b : β} {Z4 : (s5.Idx → Val e5) → s4.Idx → Val e4}
    (hB : ∀ X5, Runs defs 𝒱 c m1 m2 m3 m4 m5 m6 X1 X2 X3 X4 X5 X6 ((B.bind k).bind k') (Z4 X5) X5 Z6 b)
    (hA : (h : P) → (∀ X5, Runs defs 𝒱 c m1 m2 m3 m4 m5 m6 X1 X2 X3 X4 X5 X6 ((B.bind k).bind k') (Z4 X5) X5 Z6 b) →
      Runs defs 𝒱 c m1 m2 m3 m4 m5 m6 X1 X2 X3 X4 X5 X6 (((A h).bind k).bind k') (Z4 Y5) Y5 Z6 b)
    (hN : ¬P → Y5 = X5) :
    Runs defs 𝒱 c m1 m2 m3 m4 m5 m6 X1 X2 X3 X4 X5 X6 (((@_root_.dite _ P inst A fun _ => B).bind k).bind k') (Z4 Y5) Y5 Z6 b := by
  by_cases h : P
  · rw [dif_pos h]; exact hA h hB
  · rw [dif_neg h, hN h]; exact hB X5

theorem Runs.load1 {r : LoadRect s1} {hl : m1.view.LoadsAt r}
    {k : (r.shape.Idx → Val e1) → Prog (TpuEff nD τ sig Val Λ .tc) α} {a : α}
    (hk : Runs defs 𝒱 c m1 m2 m3 m4 m5 m6 X1 X2 X3 X4 X5 X6 (k (get X1 r)) Z4 Z5 Z6 a) :
    Runs defs 𝒱 c m1 m2 m3 m4 m5 m6 X1 X2 X3 X4 X5 X6 (.op (.load m1 r hl) k) Z4 Z5 Z6 a := by
  unfold Runs held at hk ⊢
  intro E K
  iintro ⟨⟨H1, H2, H3, H4, H5, H6⟩, HK⟩
  iapply (wp_load_owns 𝒱 c m1 fullShare X1 r hl k) $$ [H1]
  · iexact H1
  · iintro H1
    iapply (hk E K)
    iframe

theorem Runs.load2 {r : LoadRect s2} {hl : m2.view.LoadsAt r}
    {k : (r.shape.Idx → Val e2) → Prog (TpuEff nD τ sig Val Λ .tc) α} {a : α}
    (hk : Runs defs 𝒱 c m1 m2 m3 m4 m5 m6 X1 X2 X3 X4 X5 X6 (k (get X2 r)) Z4 Z5 Z6 a) :
    Runs defs 𝒱 c m1 m2 m3 m4 m5 m6 X1 X2 X3 X4 X5 X6 (.op (.load m2 r hl) k) Z4 Z5 Z6 a := by
  unfold Runs held at hk ⊢
  intro E K
  iintro ⟨⟨H1, H2, H3, H4, H5, H6⟩, HK⟩
  iapply (wp_load_owns 𝒱 c m2 fullShare X2 r hl k) $$ [H2]
  · iexact H2
  · iintro H2
    iapply (hk E K)
    iframe

theorem Runs.load3 {r : LoadRect s3} {hl : m3.view.LoadsAt r}
    {k : (r.shape.Idx → Val e3) → Prog (TpuEff nD τ sig Val Λ .tc) α} {a : α}
    (hk : Runs defs 𝒱 c m1 m2 m3 m4 m5 m6 X1 X2 X3 X4 X5 X6 (k (get X3 r)) Z4 Z5 Z6 a) :
    Runs defs 𝒱 c m1 m2 m3 m4 m5 m6 X1 X2 X3 X4 X5 X6 (.op (.load m3 r hl) k) Z4 Z5 Z6 a := by
  unfold Runs held at hk ⊢
  intro E K
  iintro ⟨⟨H1, H2, H3, H4, H5, H6⟩, HK⟩
  iapply (wp_load_owns 𝒱 c m3 fullShare X3 r hl k) $$ [H3]
  · iexact H3
  · iintro H3
    iapply (hk E K)
    iframe

theorem Runs.load4 {r : LoadRect s4} {hl : m4.view.LoadsAt r}
    {k : (r.shape.Idx → Val e4) → Prog (TpuEff nD τ sig Val Λ .tc) α} {a : α}
    (hk : Runs defs 𝒱 c m1 m2 m3 m4 m5 m6 X1 X2 X3 X4 X5 X6 (k (get X4 r)) Z4 Z5 Z6 a) :
    Runs defs 𝒱 c m1 m2 m3 m4 m5 m6 X1 X2 X3 X4 X5 X6 (.op (.load m4 r hl) k) Z4 Z5 Z6 a := by
  unfold Runs held at hk ⊢
  intro E K
  iintro ⟨⟨H1, H2, H3, H4, H5, H6⟩, HK⟩
  iapply (wp_load_owns 𝒱 c m4 fullShare X4 r hl k) $$ [H4]
  · iexact H4
  · iintro H4
    iapply (hk E K)
    iframe

theorem Runs.load5 {r : LoadRect s5} {hl : m5.view.LoadsAt r}
    {k : (r.shape.Idx → Val e5) → Prog (TpuEff nD τ sig Val Λ .tc) α} {a : α}
    (hk : Runs defs 𝒱 c m1 m2 m3 m4 m5 m6 X1 X2 X3 X4 X5 X6 (k (get X5 r)) Z4 Z5 Z6 a) :
    Runs defs 𝒱 c m1 m2 m3 m4 m5 m6 X1 X2 X3 X4 X5 X6 (.op (.load m5 r hl) k) Z4 Z5 Z6 a := by
  unfold Runs held at hk ⊢
  intro E K
  iintro ⟨⟨H1, H2, H3, H4, H5, H6⟩, HK⟩
  iapply (wp_load_owns 𝒱 c m5 fullShare X5 r hl k) $$ [H5]
  · iexact H5
  · iintro H5
    iapply (hk E K)
    iframe

theorem Runs.load6 {r : LoadRect s6} {hl : m6.view.LoadsAt r}
    {k : (r.shape.Idx → Val e6) → Prog (TpuEff nD τ sig Val Λ .tc) α} {a : α}
    (hk : Runs defs 𝒱 c m1 m2 m3 m4 m5 m6 X1 X2 X3 X4 X5 X6 (k (get X6 r)) Z4 Z5 Z6 a) :
    Runs defs 𝒱 c m1 m2 m3 m4 m5 m6 X1 X2 X3 X4 X5 X6 (.op (.load m6 r hl) k) Z4 Z5 Z6 a := by
  unfold Runs held at hk ⊢
  intro E K
  iintro ⟨⟨H1, H2, H3, H4, H5, H6⟩, HK⟩
  iapply (wp_load_owns 𝒱 c m6 fullShare X6 r hl k) $$ [H6]
  · iexact H6
  · iintro H6
    iapply (hk E K)
    iframe

theorem Runs.store4 {r : Rect s4} {w : r.shape.Idx → Val e4} {hx : (m4.access r).Stores Finset.univ}
    {hm : Finset.univ = Finset.univ ∨ ∀ a, r.stride a = 1}
    {k : PUnit → Prog (TpuEff nD τ sig Val Λ .tc) α} {a : α}
    (hk : Runs defs 𝒱 c m1 m2 m3 m4 m5 m6 X1 X2 X3 (put X4 r w) X5 X6 (k ⟨⟩) Z4 Z5 Z6 a) :
    Runs defs 𝒱 c m1 m2 m3 m4 m5 m6 X1 X2 X3 X4 X5 X6 (.op (.store m4 r w Finset.univ hx hm) k) Z4 Z5 Z6 a := by
  unfold Runs held at hk ⊢
  intro E K
  iintro ⟨⟨H1, H2, H3, H4, H5, H6⟩, HK⟩
  iapply (wp_store_owns 𝒱 c m4 X4 r w hx hm k) $$ [H4]
  · iexact H4
  · iintro H4
    iapply (hk E K)
    iframe

theorem Runs.store5 {r : Rect s5} {w : r.shape.Idx → Val e5} {hx : (m5.access r).Stores Finset.univ}
    {hm : Finset.univ = Finset.univ ∨ ∀ a, r.stride a = 1}
    {k : PUnit → Prog (TpuEff nD τ sig Val Λ .tc) α} {a : α}
    (hk : Runs defs 𝒱 c m1 m2 m3 m4 m5 m6 X1 X2 X3 X4 (put X5 r w) X6 (k ⟨⟩) Z4 Z5 Z6 a) :
    Runs defs 𝒱 c m1 m2 m3 m4 m5 m6 X1 X2 X3 X4 X5 X6 (.op (.store m5 r w Finset.univ hx hm) k) Z4 Z5 Z6 a := by
  unfold Runs held at hk ⊢
  intro E K
  iintro ⟨⟨H1, H2, H3, H4, H5, H6⟩, HK⟩
  iapply (wp_store_owns 𝒱 c m5 X5 r w hx hm k) $$ [H5]
  · iexact H5
  · iintro H5
    iapply (hk E K)
    iframe

theorem Runs.store6 {r : Rect s6} {w : r.shape.Idx → Val e6} {hx : (m6.access r).Stores Finset.univ}
    {hm : Finset.univ = Finset.univ ∨ ∀ a, r.stride a = 1}
    {k : PUnit → Prog (TpuEff nD τ sig Val Λ .tc) α} {a : α}
    (hk : Runs defs 𝒱 c m1 m2 m3 m4 m5 m6 X1 X2 X3 X4 X5 (put X6 r w) (k ⟨⟩) Z4 Z5 Z6 a) :
    Runs defs 𝒱 c m1 m2 m3 m4 m5 m6 X1 X2 X3 X4 X5 X6 (.op (.store m6 r w Finset.univ hx hm) k) Z4 Z5 Z6 a := by
  unfold Runs held at hk ⊢
  intro E K
  iintro ⟨⟨H1, H2, H3, H4, H5, H6⟩, HK⟩
  iapply (wp_store_owns 𝒱 c m6 X6 r w hx hm k) $$ [H6]
  · iexact H6
  · iintro H6
    iapply (hk E K)
    iframe

/-- The program `p`, started at the contents `X`, ends at some contents, the first three memrefs keeping theirs. -/
def Ends (defs : Defs nD τ sig Val Λ) (𝒱 : Variants) (c : Dev nD)
    (m1 : Memref sig .tc .vmem s1 e1) (m2 : Memref sig .tc .vmem s2 e2)
    (m3 : Memref sig .tc .vmem s3 e3) (m4 : Memref sig .tc .vmem s4 e4) (m5 : Memref sig .tc .vmem s5 e5)
    (m6 : Memref sig .tc .vmem s6 e6) (X1 : s1.Idx → Val e1) (X2 : s2.Idx → Val e2) (X3 : s3.Idx → Val e3)
    (X4 : s4.Idx → Val e4) (X5 : s5.Idx → Val e5) (X6 : s6.Idx → Val e6) {α : Type}
    (p : Prog (TpuEff nD τ sig Val Λ .tc) α) : Prop :=
  ∃ Y4 Y5 Y6 a, Runs defs 𝒱 c m1 m2 m3 m4 m5 m6 X1 X2 X3 X4 X5 X6 p Y4 Y5 Y6 a

theorem Ends.ret {a : α} : Ends defs 𝒱 c m1 m2 m3 m4 m5 m6 X1 X2 X3 X4 X5 X6 (.ret a) :=
  ⟨X4, X5, X6, a, Runs.ret rfl rfl rfl rfl⟩

theorem Ends.dite {γ δ : Type} {P : Prop} {inst : Decidable P} {A : P → Prog (TpuEff nD τ sig Val Λ .tc) γ}
    {B : Prog (TpuEff nD τ sig Val Λ .tc) γ} {k : γ → Prog (TpuEff nD τ sig Val Λ .tc) δ}
    {k' : δ → Prog (TpuEff nD τ sig Val Λ .tc) β}
    (hB : ∀ X5, Ends defs 𝒱 c m1 m2 m3 m4 m5 m6 X1 X2 X3 X4 X5 X6 ((B.bind k).bind k'))
    (hA : (h : P) → (∀ X5, Ends defs 𝒱 c m1 m2 m3 m4 m5 m6 X1 X2 X3 X4 X5 X6 ((B.bind k).bind k')) →
      Ends defs 𝒱 c m1 m2 m3 m4 m5 m6 X1 X2 X3 X4 X5 X6 (((A h).bind k).bind k')) :
    Ends defs 𝒱 c m1 m2 m3 m4 m5 m6 X1 X2 X3 X4 X5 X6 (((@_root_.dite _ P inst A fun _ => B).bind k).bind k') := by
  by_cases h : P
  · rw [dif_pos h]; exact hA h hB
  · rw [dif_neg h]; exact hB X5

theorem Ends.load1 {r : LoadRect s1} {hl : m1.view.LoadsAt r}
    {k : (r.shape.Idx → Val e1) → Prog (TpuEff nD τ sig Val Λ .tc) α}
    (hk : Ends defs 𝒱 c m1 m2 m3 m4 m5 m6 X1 X2 X3 X4 X5 X6 (k (get X1 r))) :
    Ends defs 𝒱 c m1 m2 m3 m4 m5 m6 X1 X2 X3 X4 X5 X6 (.op (.load m1 r hl) k) :=
  let ⟨_, _, _, _, h⟩ := hk
  ⟨_, _, _, _, Runs.load1 h⟩

theorem Ends.load2 {r : LoadRect s2} {hl : m2.view.LoadsAt r}
    {k : (r.shape.Idx → Val e2) → Prog (TpuEff nD τ sig Val Λ .tc) α}
    (hk : Ends defs 𝒱 c m1 m2 m3 m4 m5 m6 X1 X2 X3 X4 X5 X6 (k (get X2 r))) :
    Ends defs 𝒱 c m1 m2 m3 m4 m5 m6 X1 X2 X3 X4 X5 X6 (.op (.load m2 r hl) k) :=
  let ⟨_, _, _, _, h⟩ := hk
  ⟨_, _, _, _, Runs.load2 h⟩

theorem Ends.load3 {r : LoadRect s3} {hl : m3.view.LoadsAt r}
    {k : (r.shape.Idx → Val e3) → Prog (TpuEff nD τ sig Val Λ .tc) α}
    (hk : Ends defs 𝒱 c m1 m2 m3 m4 m5 m6 X1 X2 X3 X4 X5 X6 (k (get X3 r))) :
    Ends defs 𝒱 c m1 m2 m3 m4 m5 m6 X1 X2 X3 X4 X5 X6 (.op (.load m3 r hl) k) :=
  let ⟨_, _, _, _, h⟩ := hk
  ⟨_, _, _, _, Runs.load3 h⟩

theorem Ends.load4 {r : LoadRect s4} {hl : m4.view.LoadsAt r}
    {k : (r.shape.Idx → Val e4) → Prog (TpuEff nD τ sig Val Λ .tc) α}
    (hk : Ends defs 𝒱 c m1 m2 m3 m4 m5 m6 X1 X2 X3 X4 X5 X6 (k (get X4 r))) :
    Ends defs 𝒱 c m1 m2 m3 m4 m5 m6 X1 X2 X3 X4 X5 X6 (.op (.load m4 r hl) k) :=
  let ⟨_, _, _, _, h⟩ := hk
  ⟨_, _, _, _, Runs.load4 h⟩

theorem Ends.load5 {r : LoadRect s5} {hl : m5.view.LoadsAt r}
    {k : (r.shape.Idx → Val e5) → Prog (TpuEff nD τ sig Val Λ .tc) α}
    (hk : Ends defs 𝒱 c m1 m2 m3 m4 m5 m6 X1 X2 X3 X4 X5 X6 (k (get X5 r))) :
    Ends defs 𝒱 c m1 m2 m3 m4 m5 m6 X1 X2 X3 X4 X5 X6 (.op (.load m5 r hl) k) :=
  let ⟨_, _, _, _, h⟩ := hk
  ⟨_, _, _, _, Runs.load5 h⟩

theorem Ends.load6 {r : LoadRect s6} {hl : m6.view.LoadsAt r}
    {k : (r.shape.Idx → Val e6) → Prog (TpuEff nD τ sig Val Λ .tc) α}
    (hk : Ends defs 𝒱 c m1 m2 m3 m4 m5 m6 X1 X2 X3 X4 X5 X6 (k (get X6 r))) :
    Ends defs 𝒱 c m1 m2 m3 m4 m5 m6 X1 X2 X3 X4 X5 X6 (.op (.load m6 r hl) k) :=
  let ⟨_, _, _, _, h⟩ := hk
  ⟨_, _, _, _, Runs.load6 h⟩

theorem Ends.store4 {r : Rect s4} {w : r.shape.Idx → Val e4} {hx : (m4.access r).Stores Finset.univ}
    {hm : Finset.univ = Finset.univ ∨ ∀ a, r.stride a = 1} {k : PUnit → Prog (TpuEff nD τ sig Val Λ .tc) α}
    (hk : Ends defs 𝒱 c m1 m2 m3 m4 m5 m6 X1 X2 X3 (put X4 r w) X5 X6 (k ⟨⟩)) :
    Ends defs 𝒱 c m1 m2 m3 m4 m5 m6 X1 X2 X3 X4 X5 X6 (.op (.store m4 r w Finset.univ hx hm) k) :=
  let ⟨_, _, _, _, h⟩ := hk
  ⟨_, _, _, _, Runs.store4 h⟩

theorem Ends.store5 {r : Rect s5} {w : r.shape.Idx → Val e5} {hx : (m5.access r).Stores Finset.univ}
    {hm : Finset.univ = Finset.univ ∨ ∀ a, r.stride a = 1} {k : PUnit → Prog (TpuEff nD τ sig Val Λ .tc) α}
    (hk : Ends defs 𝒱 c m1 m2 m3 m4 m5 m6 X1 X2 X3 X4 (put X5 r w) X6 (k ⟨⟩)) :
    Ends defs 𝒱 c m1 m2 m3 m4 m5 m6 X1 X2 X3 X4 X5 X6 (.op (.store m5 r w Finset.univ hx hm) k) :=
  let ⟨_, _, _, _, h⟩ := hk
  ⟨_, _, _, _, Runs.store5 h⟩

theorem Ends.store6 {r : Rect s6} {w : r.shape.Idx → Val e6} {hx : (m6.access r).Stores Finset.univ}
    {hm : Finset.univ = Finset.univ ∨ ∀ a, r.stride a = 1} {k : PUnit → Prog (TpuEff nD τ sig Val Λ .tc) α}
    (hk : Ends defs 𝒱 c m1 m2 m3 m4 m5 m6 X1 X2 X3 X4 X5 (put X6 r w) (k ⟨⟩)) :
    Ends defs 𝒱 c m1 m2 m3 m4 m5 m6 X1 X2 X3 X4 X5 X6 (.op (.store m6 r w Finset.univ hx hm) k) :=
  let ⟨_, _, _, _, h⟩ := hk
  ⟨_, _, _, _, Runs.store6 h⟩

end Six

end Rules

end Mx
-- ==== Proof.KernelBody.lean ====
/-
  The run of the whole body of the kernel at any interpretation of the floats: it ends, whatever the contents.
-/
module

public import proofs.«01_k».proof.Proof.Eval
public import proofs.«01_k».proof.Proof.Gen.Kernel.Launch

@[expose] public section

noncomputable section

namespace Cert.Kernel.Body

open Cert.Kernel Cert.Kernel.Gen
open Idealize.ShloMosaic
open Idealize.ShloMosaic.TcCoe
open Idealize.SL
open Idealize.SL.RA
open Idealize.SL.BI
open scoped Idealize.SL.BI
open Mx

variable {F : FTy → Type} [FloatOps F]

set_option maxHeartbeats 0 in
/-- The body ends, from any contents of its buffers. -/
theorem ends (defs : Defs nD τ sig (Elt F) Λ₀) (𝒱 : Variants) (c : Dev nD) (i : grid0.Coords)
    (arg1 : Memref sig .tc .vmem S64x10496 .bf16) (harg1 : arg1.IsWhole)
    (arg2 : Memref sig .tc .vmem S512x5248 .i8) (harg2 : arg2.IsWhole)
    (arg3 : Memref sig .tc .vmem S328x512 .i8) (harg3 : arg3.IsWhole)
    (arg4 : Memref sig .tc .vmem S64x512 .bf16) (harg4 : arg4.IsWhole)
    (arg5 : Memref sig .tc .vmem S64x10496 .bf16) (harg5 : arg5.IsWhole)
    (arg6 : Memref sig .tc .vmem S328x512 .i32) (harg6 : arg6.IsWhole)
    (X1 : Vec F S64x10496 .bf16) (X2 : Vec F S512x5248 .i8) (X3 : Vec F S328x512 .i8) (X4 : Vec F S64x512 .bf16) (X5 : Vec F S64x10496 .bf16) (X6 : Vec F S328x512 .i32) :
    Ends defs 𝒱 c arg1 arg2 arg3 arg4 arg5 arg6 X1 X2 X3 X4 X5 X6
      (cc0_mxfp4_linear i arg1 harg1 arg2 harg2 arg3 harg3 arg4 harg4 arg5 harg5 arg6 harg6) := by
  refine Ends.dite ?_ ?_
  · intro X5
    refine Ends.load3 ?_
    refine Ends.load6 ?_
    refine Ends.store6 ?_
    generalize put X6 _ _ = X6
    refine Ends.load2 ?_
    iterate 8 refine Ends.load6 ?_
    iterate 3
      refine Ends.load2 ?_
      iterate 8 refine Ends.load6 ?_
    refine Ends.load5 ?_
    refine Ends.load2 ?_
    generalize matmul (F := F) dot_S64x256_S256x512_S64x512_1_0_0_1_n_n _ _ _ _ = a
    iterate 39
      iterate 8 refine Ends.load6 ?_
      iterate 3
        refine Ends.load2 ?_
        iterate 8 refine Ends.load6 ?_
      refine Ends.load5 ?_
      refine Ends.load2 ?_
      generalize addf (F := F) _ (matmul (F := F) dot_S64x256_S256x512_S64x512_1_0_0_1_n_n _ _ _ _) = a
    iterate 8 refine Ends.load6 ?_
    iterate 3
      refine Ends.load2 ?_
      iterate 8 refine Ends.load6 ?_
    refine Ends.load5 ?_
    refine Ends.load4 ?_
    refine Ends.store4 ?_
    exact Ends.ret
  · intro h tail
    iterate 41
      refine Ends.load1 ?_
      refine Ends.load5 ?_
      refine Ends.store5 ?_
    exact tail _

end Cert.Kernel.Body
-- ==== Proof.KernelRun.lean ====
/-
  The frame of the kernel at any interpretation of the floats: it ends, its arguments unchanged and every counter at
  zero.  Nothing is said of what the staging buffers hold, so every window is forgotten.
-/
module

public import proofs.«01_k».proof.Proof.KernelBody
public import proofs.«01_k».proof.Proof.Gen.Kernel.Frame
public import Idealize.ShloMosaic.Lib.Pipeline.Frame

@[expose] public section

noncomputable section

namespace Cert.Kernel.Body

open Cert.Kernel Cert.Kernel.Gen
open Idealize.ShloMosaic
open Idealize.ShloMosaic.TcCoe
open Idealize.SL
open Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Mx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; the scratch buffers at any contents. -/
def dats (_ : Fin 1) (c : Dev nD) : Dat τ (Elt F) Unit ℕ (UR sig nD τ) ℕ cfg0 c where
  A w := V m c (Pipeline.arrRef spec0 w)
  after _ _ := fun _ => Classical.choice inferInstance
  Φ _ := Pipeline.ΦA spec0 c
  q _ := fullShare
  owed _ := 0

theorem body_obligation (c : Dev nD) :
    BodyObligationLoose (dats m 0 c) (defs₀ (F := F)) Variants.none () Set.univ (fun _ => true) := fun t => by
  rw [bigSep_W0]
  simp only
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%f5, H5⟩, ⟨%f6, H6⟩⟩, Hp⟩, Ho, ⟨%X1, H1⟩, ⟨%X2, H2⟩, ⟨%X3, H3⟩, ⟨%X4, H4⟩⟩
  obtain ⟨Y4, Y5, Y6, a, h⟩ := ends (defs₀ (F := F)) Variants.none c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    X1 X2 X3 X4 f5 f6
  iapply (h.wp Set.univ _)
  isplitl [H1 H2 H3 H4 H5 H6]
  · unfold held
    rw [owns_whole_eq, owns_whole_eq]
    isplitl [H1]; · iexact H1
    isplitl [H2]; · iexact H2
    isplitl [H3]; · iexact H3
    isplitl [H4]; · iexact H4
    isplitl [H5]
    · iexists f5; isplitr; · ipureintro; rfl
      iexact H5
    · iexists f6; isplitr; · ipureintro; rfl
      iexact H6
  · unfold held
    rw [owns_whole_eq, owns_whole_eq]
    iintro ⟨H1, H2, H3, H4, ⟨%g5, %hg5, H5⟩, ⟨%g6, %hg6, H6⟩⟩
    isplitl [H5 H6 Hp]
    · isplitl [H5 H6]
      · isplitl [H5]
        · iexists g5; iexact H5
        · iexists g6; iexact H6
      · iexact Hp
    isplitl [Ho]; · iexact Ho
    isplitl [H1]; · iexists X1; iexact H1
    isplitl [H2]; · iexists X2; iexact H2
    isplitl [H3]; · iexists X3; iexact H3
    iexists Y4; iexact H4

set_option backward.isDefEq.respectTransparency.types false in
/-- The kernel ends with its arguments unchanged and every counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) (0 : Fin 1) launch0 defs₀ Variants.none (fun _ => true) m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := _)
    (hQ' := fun r h => ⟨fun c => ⟨
        ((h.1 c).2 main_arg0 (Pipeline.mem_restRefs_of main_arg0 (by decide) (by decide))).trans (V_main_arg0 m c),
        (cast (congrFun (((dats m 0 c).toRForget fun _ => true).ArrAt_in 1 rfl cfg0.N) _) ((h.1 c).1 1) :
          r.2.mem ((c.tc : Thread nD τ).loc main_arg1) = V m c main_arg1).trans (V_main_arg1 m c),
        ((h.1 c).2 main_arg2 (Pipeline.mem_restRefs_of main_arg2 (by decide) (by decide))).trans (V_main_arg2 m c)⟩,
      h.2⟩)

end Cert.Kernel.Body
-- ==== Proof.Tile.lean ====
/-
  What the body of the kernel computes, as functions of the contents it finds.

  `codesAt`, `scalesAt`, `inputAt` are the loads of K-tile `t`; `tile` is the tile's product; `acc` adds the tiles
  up; `scaleBits` is the expanded scale scratch and `permuted` the permuted activation scratch.
-/
module

public import proofs.«01_k».proof.Proof.Eval
public import proofs.«01_k».proof.Proof.Gen.KernelIdeal.Launch

@[expose] public section

noncomputable section

namespace Cert.KernelIdeal.Body

open Cert.KernelIdeal Cert.KernelIdeal.Gen
open Idealize.ShloMosaic
open Mx

variable {F : FTy → Type} [FloatOps F]

theorem inb_codes (g t : ℕ) (hg : g < 4) (ht : t < 41) :
    ∀ a, (![128 * g, 128 * t] : Fin 2 → ℕ) a + S128x128.size a ≤ S512x5248.size a := by
  intro a; fin_cases a <;> simp <;> omega

theorem inb_scale (r g : ℕ) (hr : r < 328) (hg : g < 4) :
    ∀ a, (![r, 128 * g] : Fin 2 → ℕ) a + S1x128.size a ≤ S328x512.size a := by
  intro a; fin_cases a <;> simp <;> omega

theorem inb_x (t : ℕ) (ht : t < 41) :
    ∀ a, (![0, 256 * t] : Fin 2 → ℕ) a + S64x256.size a ≤ S64x10496.size a := by
  intro a; fin_cases a <;> simp <;> omega

/-- The codes of rows `128 g …` in K-tile `t`. -/
def codesAt (X : Vec F S512x5248 .i8) (g t : ℕ) (hg : g < 4) (ht : t < 41) : Vec F S128x128 .i8 :=
  get X (Rect.unit (s := S512x5248) ![128 * g, 128 * t] S128x128.size (inb_codes g t hg ht)).toLoadRect

/-- The expanded scales of block row `r` for the columns `128 g …`. -/
def scalesAt (X : Vec F S328x512 .i32) (r g : ℕ) (hr : r < 328) (hg : g < 4) : Vec F S1x128 .i32 :=
  get X (Rect.unit (s := S328x512) ![r, 128 * g] S1x128.size (inb_scale r g hr hg)).toLoadRect

/-- The activations of K-tile `t`. -/
def inputAt (X : Vec F S64x10496 .bf16) (t : ℕ) (ht : t < 41) : Vec F S64x256 .bf16 :=
  get X (Rect.unit (s := S64x10496) ![0, 256 * t] S64x256.size (inb_x t ht)).toLoadRect

/-- The bf16 bits of the e2m1 codes held one in each word. -/
def e2m1 (c : IVec S128x128 32) : IVec S128x128 32 :=
  ori (shli (andi c (broadcast S128x128 8#32)) (broadcast S128x128 12#32))
    (select (cmpi .slt (andi c (broadcast S128x128 7#32)) (broadcast S128x128 2#32))
      (muli (andi c (broadcast S128x128 7#32)) (broadcast S128x128 16128#32))
      (addi (broadcast S128x128 16128#32) (shli (andi c (broadcast S128x128 7#32)) (broadcast S128x128 6#32))))

/-- The values of a tile of codes: two for each byte, the low nibble's first. -/
def decode (v : Vec F S128x128 .i8) : FVec F S256x128 .bf16 :=
  let c : IVec S128x128 32 := extui 32 (transpose S128x128 [1, 0] v transposes_S128x128_p1_0_S128x128) natLt_8_32
  bitcastToFloat .bf16 (bitcast S256x128 16
    (ori (e2m1 (andi c (broadcast S128x128 15#32)))
      (shli (e2m1 (shrsi c (broadcast S128x128 4#32))) (broadcast S128x128 16#32)))
    bitcasts_S128x128_w32_S256x128_w16)

/-- A row of expanded scales repeated over the 32 rows of a block. -/
def scaleBlock (v : Vec F S1x128 .i32) : FVec F S32x128 .bf16 :=
  bitcastToFloat .bf16 (bitcast S32x128 16
    (broadcastTo S16x128 (shapeCast S1x128 v shapeCasts_S1x128_S1x128) broadcasts_S1x128_S16x128)
    bitcasts_S16x128_w32_S32x128_w16)

/-- The scaled weights of a column group in K-tile `t`. -/
def group (X2 : Vec F S512x5248 .i8) (X6 : Vec F S328x512 .i32) (t g : ℕ) (ht : t < 41) (hg : g < 4) :
    FVec F S256x128 .bf16 :=
  let w := decode (F := F) (codesAt X2 g t hg ht)
  concatenate S256x128 0
    [⟨S32x128, mulf (extractStridedSlice S32x128 ![0, 0] w slices_S256x128_o0_0_S32x128) (scaleBlock (scalesAt X6 (8 * t) g (by omega) hg))⟩,
     ⟨S32x128, mulf (extractStridedSlice S32x128 ![32, 0] w slices_S256x128_o32_0_S32x128) (scaleBlock (scalesAt X6 (8 * t + 1) g (by omega) hg))⟩,
     ⟨S32x128, mulf (extractStridedSlice S32x128 ![64, 0] w slices_S256x128_o64_0_S32x128) (scaleBlock (scalesAt X6 (8 * t + 2) g (by omega) hg))⟩,
     ⟨S32x128, mulf (extractStridedSlice S32x128 ![96, 0] w slices_S256x128_o96_0_S32x128) (scaleBlock (scalesAt X6 (8 * t + 3) g (by omega) hg))⟩,
     ⟨S32x128, mulf (extractStridedSlice S32x128 ![128, 0] w slices_S256x128_o128_0_S32x128) (scaleBlock (scalesAt X6 (8 * t + 4) g (by omega) hg))⟩,
     ⟨S32x128, mulf (extractStridedSlice S32x128 ![160, 0] w slices_S256x128_o160_0_S32x128) (scaleBlock (scalesAt X6 (8 * t + 5) g (by omega) hg))⟩,
     ⟨S32x128, mulf (extractStridedSlice S32x128 ![192, 0] w slices_S256x128_o192_0_S32x128) (scaleBlock (scalesAt X6 (8 * t + 6) g (by omega) hg))⟩,
     ⟨S32x128, mulf (extractStridedSlice S32x128 ![224, 0] w slices_S256x128_o224_0_S32x128) (scaleBlock (scalesAt X6 (8 * t + 7) g (by omega) hg))⟩]
    concatenates_S32x128_S32x128_S32x128_S32x128_S32x128_S32x128_S32x128_S32x128_S256x128_d0

/-- The scaled weights of K-tile `t`. -/
def weights (X2 : Vec F S512x5248 .i8) (X6 : Vec F S328x512 .i32) (t : ℕ) (ht : t < 41) : FVec F S256x512 .bf16 :=
  concatenate S256x512 1
    [⟨S256x128, group X2 X6 t 0 ht (by omega)⟩, ⟨S256x128, group X2 X6 t 1 ht (by omega)⟩,
     ⟨S256x128, group X2 X6 t 2 ht (by omega)⟩, ⟨S256x128, group X2 X6 t 3 ht (by omega)⟩]
    concatenates_S256x128_S256x128_S256x128_S256x128_S256x512_d1

/-- The product of K-tile `t`. -/
def tile (X2 : Vec F S512x5248 .i8) (X5 : Vec F S64x10496 .bf16) (X6 : Vec F S328x512 .i32) (t : ℕ) (ht : t < 41) :
    FVec F S64x512 .f32 :=
  matmul dot_S64x256_S256x512_S64x512_1_0_0_1_n_n none (inputAt X5 t ht) (weights X2 X6 t ht)
    (constant S64x512 .f32 0x00000000#32)

/-- The sum of the K-tiles up to `t`. -/
def acc (X2 : Vec F S512x5248 .i8) (X5 : Vec F S64x10496 .bf16) (X6 : Vec F S328x512 .i32) :
    (t : ℕ) → t < 41 → FVec F S64x512 .f32
  | 0, h => tile X2 X5 X6 0 h
  | t + 1, h => addf (acc X2 X5 X6 t (by omega)) (tile X2 X5 X6 (t + 1) h)

theorem acc_first {X2 : Vec F S512x5248 .i8} {X5 : Vec F S64x10496 .bf16} {X6 : Vec F S328x512 .i32}
    {a : FVec F S64x512 .f32} (h : tile X2 X5 X6 0 (by omega) = a) : acc X2 X5 X6 0 (by omega) = a := h

theorem acc_next {X2 : Vec F S512x5248 .i8} {X5 : Vec F S64x10496 .bf16} {X6 : Vec F S328x512 .i32}
    {t : ℕ} {h : t < 41} {d a : FVec F S64x512 .f32} (hx : addf (acc X2 X5 X6 t h) d = a) (h' : t + 1 < 41) :
    d = tile X2 X5 X6 (t + 1) h' → acc X2 X5 X6 (t + 1) h' = a := by
  rintro rfl; exact hx

/-- The scale scratch: each scale's bits in both halves of a word, moved to a bf16's exponent. -/
def scaleBits (X3 : Vec F S328x512 .i8) (X6 : Vec F S328x512 .i32) : Vec F S328x512 .i32 :=
  let s : IVec S328x512 32 := extui 32 (shapeCast S328x512
    (get X3 (Rect.unit (s := S328x512) ![0, 0] S328x512.size inb_S328x512_S328x512_0_0).toLoadRect : Vec F S328x512 .i8)
    shapeCasts_S328x512_S328x512) natLt_8_32
  put X6 (Rect.unit (s := S328x512) ![0, 0] S328x512.size inb_S328x512_S328x512_0_0)
    (shapeCast S328x512 (ori (shli s (broadcast S328x512 7#32)) (shli s (broadcast S328x512 23#32))) shapeCasts_S328x512_S328x512)

/-- The 0/1 matrix that moves column `16 b + r` of a block of 32 (`b` its half) to column `2 r + b`. -/
def permMatrix : FVec F S256x256 .bf16 :=
  let dst : IVec S256x256 32 := iota .tc S256x256 32 [1] iota_S256x256_d1_w32
  let want : IVec S256x256 32 :=
    addi (addi (andi dst (broadcast S256x256 4294967264#32)) (muli (andi dst (broadcast S256x256 1#32)) (broadcast S256x256 16#32)))
      (shrsi (andi dst (broadcast S256x256 31#32)) (broadcast S256x256 1#32))
  truncf .bf16 (select (cmpi .eq (iota .tc S256x256 32 [0] iota_S256x256_d0_w32) want)
    (broadcast S256x256 (Scalar.ofBits .f32 0x3F800000#32)) (broadcast S256x256 (Scalar.ofBits .f32 0x00000000#32) : FVec F S256x256 .f32))
    bitsLt_bf16_f32

/-- The permuted activations of K-tile `t`. -/
def permTile (X1 : Vec F S64x10496 .bf16) (t : ℕ) (ht : t < 41) : FVec F S64x256 .bf16 :=
  shapeCast S64x256 (truncf .bf16 (matmul dot_S64x256_S256x256_S64x256_1_0_0_1_n_n none
    (shapeCast S64x256 (inputAt X1 t ht) shapeCasts_S64x256_S64x256) permMatrix
    (constant S64x256 .f32 0x00000000#32)) bitsLt_bf16_f32) shapeCasts_S64x256_S64x256

/-- The activation scratch once the first `t` K-tiles are permuted into it. -/
def permuted (X1 X5 : Vec F S64x10496 .bf16) : (t : ℕ) → t ≤ 41 → Vec F S64x10496 .bf16
  | 0, _ => X5
  | t + 1, h => put (permuted X1 X5 t (by omega)) (Rect.unit (s := S64x10496) ![0, 256 * t] S64x256.size (inb_x t h))
      (permTile X1 t h)

/-- What the body stores: the sum of all K-tiles, rounded to bf16. -/
def result (X2 : Vec F S512x5248 .i8) (X4 : Vec F S64x512 .bf16) (X5 : Vec F S64x10496 .bf16) (X6 : Vec F S328x512 .i32) :
    Vec F S64x512 .bf16 :=
  put X4 (Rect.unit (s := S64x512) ![0, 0] S64x512.size inb_S64x512_S64x512_0_0)
    (truncf .bf16 (acc X2 X5 X6 40 (by omega)) bitsLt_bf16_f32)

end Cert.KernelIdeal.Body
-- ==== Proof.Words.lean ====
/-
  What the body makes of one byte, over the ideal floats: the two weights of a byte of codes and the scale of a byte
  of exponents.
-/
module

public import proofs.«01_k».proof.Proof.Tile
public import Idealize.ShloMosaic.Lib.BitcastPair
public import Idealize.ShloMosaic.Lib.ValueIdx
public import Idealize.ShloMosaic.Lib.Pipeline.Value
public import Idealize.ShloMosaic.Lib.MatmulPlain
public import Idealize.ShloMosaic.Lib.IdealHost

@[expose] public section

noncomputable section

namespace Cert.KernelIdeal.Body

open Cert.KernelIdeal Cert.KernelIdeal.Gen
open Idealize.ShloMosaic Idealize.ShloMosaic.ValueIdx
open Mx

/-- The bf16 bits of one e2m1 code. -/
def codeBits (c : BitVec 32) : BitVec 32 :=
  IntOp.ori (IntOp.shli .vector (IntOp.andi c 8#32) 12#32)
    (Scalar.select (IntOp.cmpi .slt (IntOp.andi c 7#32) 2#32)
      (IntOp.muli (IntOp.andi c 7#32) 16128#32)
      (IntOp.addi 16128#32 (IntOp.shli .vector (IntOp.andi c 7#32) 6#32)))

/-- The word that holds the bf16 bits of both codes of a byte, the low nibble's in its low half. -/
def codeWord (b : BitVec 8) : BitVec 32 :=
  IntOp.ori (codeBits (IntOp.andi (b.setWidth 32) 15#32))
    (IntOp.shli .vector (codeBits (IntOp.shrsi .vector (b.setWidth 32) 4#32)) 16#32)

/-- The value of the code in half `p` of a byte. -/
def weight (b : BitVec 8) (p : ℕ) : EReal := Ideal.ofBits .bf16 ((codeWord b).extractLsb' (16 * p) 16)

/-- The word that holds the bf16 bits of a scale twice. -/
def scaleWord (b : BitVec 8) : BitVec 32 :=
  IntOp.ori (IntOp.shli .vector (b.setWidth 32) 7#32) (IntOp.shli .vector (b.setWidth 32) 23#32)

/-- The value of a scale byte. -/
def scale (b : BitVec 8) : EReal := Ideal.ofBits .bf16 ((scaleWord b).extractLsb' 0 16)

theorem scaleWord_half : ∀ (b : BitVec 8) (p : Fin 2),
    (scaleWord b).extractLsb' (16 * p.val) 16 = (scaleWord b).extractLsb' 0 16 := by decide +kernel

theorem scaleWord_half' (b : BitVec 8) (k : ℕ) :
    (scaleWord b).extractLsb' (16 * (k % 2)) 16 = (scaleWord b).extractLsb' 0 16 :=
  scaleWord_half b ⟨k % 2, Nat.mod_lt _ (by omega)⟩

/-- Half-word `k` of a column of words is half `k % 2` of word `k / 2`. -/
theorem halves_apply {R R' C : ℕ} (x : (⟨2, ![R, C]⟩ : Shape).Idx → BitVec 32)
    (h : (⟨2, ![R, C]⟩ : Shape).Bitcasts 32 ⟨2, ![R', C]⟩ 16) (k : Fin R') (n : Fin C) (hk : k.val / 2 < R) :
    bitcast ⟨2, ![R', C]⟩ 16 x h (ix2 k n) = (x (ix2 ⟨k.val / 2, hk⟩ n)).extractLsb' (16 * (k.val % 2)) 16 := by
  rw [bitcast_32_16]
  have hr : (⟨2, ![R', C]⟩ : Shape).row (ix2 k n) = k.val := rfl
  have hx : ∀ (p : ℕ) hp (hR : p < R), h.srcIdx (ix2 k n) p hp = ix2 ⟨p, hR⟩ n := fun p hp hR => by
    funext a
    match a with
    | ⟨0, _⟩ => exact Fin.ext (h.srcIdx_row _ _ _ _ rfl)
    | ⟨1, _⟩ => exact Fin.ext (h.srcIdx_other _ _ _ _ (by decide : ¬ (1 + 2 = 2)))
  rw [hx _ _ (by rw [hr]; exact hk)]
  rfl

/-- Row `k` of the decoded tile. -/
theorem decode_apply (v : Vec Ideal S128x128 .i8) (k : Fin 256) (n : Fin 128) :
    decode (F := Ideal) v (ix2 k n) = weight (v (ix2 n ⟨k.val / 2, by omega⟩)) (k.val % 2) := by
  unfold decode weight
  refine congrArg (Ideal.ofBits .bf16) ?_
  refine (halves_apply _ _ k n (by omega)).trans (congrArg (fun w : BitVec 32 => w.extractLsb' _ 16) ?_)
  have ht : transpose S128x128 [1, 0] v transposes_S128x128_p1_0_S128x128 (ix2 ⟨k.val / 2, by omega⟩ n)
      = v (ix2 n ⟨k.val / 2, by omega⟩) :=
    transpose_apply _ _ _ _ _ (by intro b; match b with | ⟨0, _⟩ => rfl | ⟨1, _⟩ => rfl)
  exact congrArg codeWord ht

/-- Every row of a scale block holds the scale that its row of words holds twice. -/
theorem scaleBlock_apply (v : Vec Ideal S1x128 .i32) (b : BitVec 8) (k : Fin 32) (n : Fin 128)
    (hv : v (ix2 0 n) = scaleWord b) : scaleBlock (F := Ideal) v (ix2 k n) = scale b := by
  unfold scaleBlock scale
  refine congrArg (Ideal.ofBits .bf16) ?_
  rw [← scaleWord_half' b k.val, ← hv, shapeCast_self]
  refine (halves_apply _ _ k n (by omega)).trans (congrArg (fun w : BitVec 32 => w.extractLsb' _ 16) ?_)
  exact broadcastTo_apply _ _ _ _ (by intro a; match a with | ⟨0, _⟩ => rfl | ⟨1, _⟩ => rfl)

end Cert.KernelIdeal.Body
-- ==== Proof.Value.lean ====
/-
  The block that one grid point computes, over the ideal floats: entry (r, n) is the sum over the contracted positions
  of the permuted activation times the weight times its scale.
-/
module

public import proofs.«01_k».proof.Proof.Words

@[expose] public section

noncomputable section

namespace Cert.KernelIdeal.Body

open Cert.KernelIdeal Cert.KernelIdeal.Gen
open Idealize.ShloMosaic Idealize.ShloMosaic.ValueIdx
open scoped BigOperators
open Mx

/-- Storing a whole array leaves the array stored. -/
theorem put_whole {s : Shape} {α : Type} (X : s.Idx → α) (o : Fin s.rank → ℕ) (h : ∀ a, o a + s.size a ≤ s.size a)
    (w : s.Idx → α) : put X (Rect.unit (s := s) o s.size h) w = w := by
  funext i
  have hi : (Rect.unit (s := s) o s.size h).emb i = i := by
    funext a; apply Fin.ext
    have := h a
    have : (((Rect.unit (s := s) o s.size h).emb i a).val : ℕ) = o a + (i a).val := by
      simp [Rect.emb, Rect.unit]
    omega
  exact (congrArg (put X (Rect.unit (s := s) o s.size h) w) hi).symm.trans
    (put_emb X (Rect.unit (s := s) o s.size h) w i)

/-- The scale scratch holds each scale's word. -/
theorem scaleBits_apply (X3 : Vec Ideal S328x512 .i8) (X6 : Vec Ideal S328x512 .i32) (i : S328x512.Idx) :
    scaleBits (F := Ideal) X3 X6 i = scaleWord (X3 i) := by
  unfold scaleBits
  simp only
  have h := put_whole X6 ![0, 0] inb_S328x512_S328x512_0_0
  refine (congrFun (h _) i).trans ?_
  rw [shapeCast_self]
  have hi : (Rect.unit (s := S328x512) ![0, 0] S328x512.size inb_S328x512_S328x512_0_0).toLoadRect.idx i = i := by
    funext a; apply Fin.ext
    match a with
    | ⟨0, _⟩ => simp [Rect.unit]
    | ⟨1, _⟩ => simp [Rect.unit]
  exact congrArg scaleWord ((congrFun (shapeCast_self (s := S328x512) _ _) i).trans (congrArg X3 hi))

/-- The scaled weight at contracted position `k` of K-tile `t` and column `n`. -/
def term (X2 : Vec Ideal S512x5248 .i8) (X3 : Vec Ideal S328x512 .i8) (k : Fin 10496) (n : Fin 512) : EReal :=
  weight (X2 (ix2 n ⟨k.val / 2, by omega⟩)) (k.val % 2) * scale (X3 (ix2 ⟨k.val / 32, by omega⟩ n))

theorem codesAt_apply (X : Vec Ideal S512x5248 .i8) (g t : ℕ) (hg : g < 4) (ht : t < 41) (n : Fin 128) (k : Fin 128) :
    codesAt (F := Ideal) X g t hg ht (ix2 n k) = X (ix2 ⟨128 * g + n.val, by omega⟩ ⟨128 * t + k.val, by omega⟩) := by
  unfold codesAt Mx.get
  refine congrArg X (funext fun a => Fin.ext ?_)
  match a with
  | ⟨0, _⟩ => simp [Rect.unit]
  | ⟨1, _⟩ => simp [Rect.unit]

theorem scalesAt_apply (X : Vec Ideal S328x512 .i32) (r g : ℕ) (hr : r < 328) (hg : g < 4) (n : Fin 128) :
    scalesAt (F := Ideal) X r g hr hg (ix2 0 n) = X (ix2 ⟨r, hr⟩ ⟨128 * g + n.val, by omega⟩) := by
  unfold scalesAt Mx.get
  refine congrArg X (funext fun a => Fin.ext ?_)
  match a with
  | ⟨0, _⟩ => simp [Rect.unit]
  | ⟨1, _⟩ => simp [Rect.unit]

theorem inputAt_apply (X : Vec Ideal S64x10496 .bf16) (t : ℕ) (ht : t < 41) (r : Fin 64) (k : Fin 256) :
    inputAt (F := Ideal) X t ht (ix2 r k) = X (ix2 r ⟨256 * t + k.val, by omega⟩) := by
  unfold inputAt Mx.get
  refine congrArg X (funext fun a => Fin.ext ?_)
  match a with
  | ⟨0, _⟩ => simp [Rect.unit]
  | ⟨1, _⟩ => simp [Rect.unit]

theorem slices (b : Fin 8) : S256x128.Slices ![32 * b.val, 0] S32x128 := by revert b; decide

/-- A column group of K-tile `t`. -/
theorem group_apply (X2 : Vec Ideal S512x5248 .i8) (X3 : Vec Ideal S328x512 .i8) (X6 : Vec Ideal S328x512 .i32)
    (t g : ℕ) (ht : t < 41) (hg : g < 4) (k : Fin 256) (n : Fin 128) :
    group (F := Ideal) X2 (scaleBits X3 X6) t g ht hg (ix2 k n)
      = term X2 X3 ⟨256 * t + k.val, by omega⟩ ⟨128 * g + n.val, by omega⟩ := by
  have e := concatenate_ofFn_apply (t := S256x128) (s₁ := S32x128) 0
    (fun b : Fin 8 => mulf (extractStridedSlice S32x128 ![32 * b.val, 0]
        (decode (F := Ideal) (codesAt X2 g t hg ht)) (slices b))
      (scaleBlock (scalesAt (scaleBits X3 X6) (8 * t + b.val) g (by omega) hg)))
    concatenates_S32x128_S32x128_S32x128_S32x128_S32x128_S32x128_S32x128_S32x128_S256x128_d0
    rfl 32 rfl (ix2 k n) ⟨k.val / 32, by omega⟩ rfl (ix2 ⟨k.val % 32, by omega⟩ n) rfl
    (by intro b hb; match b with
        | ⟨0, _⟩ => exact absurd rfl hb
        | ⟨1, _⟩ => rfl)
  refine (show group (F := Ideal) X2 (scaleBits X3 X6) t g ht hg (ix2 k n) = _ from e).trans ?_
  unfold term
  refine congrArg₂ (· * ·) ?_ ?_
  · refine (extractStridedSlice_apply _ _ _ _ (ix2 k n) ?_).trans ?_
    · intro a
      match a with
      | ⟨0, _⟩ => exact (Nat.div_add_mod k.val 32).symm
      | ⟨1, _⟩ => exact (Nat.zero_add _).symm
    · rw [decode_apply, codesAt_apply]
      refine congrArg₂ weight (congrArg X2 ?_) ?_
      · exact congrArg (ix2 _) (Fin.ext (by simp only; omega))
      · simp only; omega
  · refine scaleBlock_apply _ _ _ _ ((scalesAt_apply _ _ _ _ _ _).trans ((scaleBits_apply _ _ _).trans ?_))
    refine congrArg (fun j => scaleWord (X3 j)) ?_
    exact congrArg (fun j => ix2 j _) (Fin.ext (by simp only; omega))

/-- The scaled weights of K-tile `t`. -/
theorem weights_apply (X2 : Vec Ideal S512x5248 .i8) (X3 : Vec Ideal S328x512 .i8) (X6 : Vec Ideal S328x512 .i32)
    (t : ℕ) (ht : t < 41) (k : Fin 256) (n : Fin 512) :
    weights (F := Ideal) X2 (scaleBits X3 X6) t ht (ix2 k n) = term X2 X3 ⟨256 * t + k.val, by omega⟩ n := by
  have e := concatenate_ofFn_apply (t := S256x512) (s₁ := S256x128) 1
    (fun g : Fin 4 => group (F := Ideal) X2 (scaleBits X3 X6) t g.val ht g.isLt)
    concatenates_S256x128_S256x128_S256x128_S256x128_S256x512_d1
    rfl 128 rfl (ix2 k n) ⟨n.val / 128, by omega⟩ rfl (ix2 k ⟨n.val % 128, by omega⟩) rfl
    (by intro b hb; match b with
        | ⟨0, _⟩ => rfl
        | ⟨1, _⟩ => exact absurd rfl hb)
  refine (show weights (F := Ideal) X2 (scaleBits X3 X6) t ht (ix2 k n) = _ from e).trans ?_
  rw [group_apply]
  exact congrArg (term X2 X3 _) (Fin.ext (Nat.div_add_mod n.val 128))

/-- The product of K-tile `t`. -/
theorem tile_apply (X2 : Vec Ideal S512x5248 .i8) (X3 : Vec Ideal S328x512 .i8) (X5 : Vec Ideal S64x10496 .bf16)
    (X6 : Vec Ideal S328x512 .i32) (t : ℕ) (ht : t < 41) (r : Fin 64) (n : Fin 512) :
    tile (F := Ideal) X2 X5 (scaleBits X3 X6) t ht (ix2 r n)
      = ∑ k : Fin 256, X5 (ix2 r ⟨256 * t + k.val, by omega⟩) * term X2 X3 ⟨256 * t + k.val, by omega⟩ n := by
  unfold tile
  refine (Ideal.matmul_plain_apply (M := 64) (K := 256) (N := 512) none _ _ _ r n).trans ?_
  rw [show (constant (F := Ideal) S64x512 .f32 0x00000000#32) (ix2 r n) = (0 : EReal) from Ideal.ofBits_zero_f32,
    zero_add]
  refine Finset.sum_congr rfl fun k _ => congrArg₂ (· * ·) (inputAt_apply _ _ _ _ _) (weights_apply _ _ _ _ _ _ _)

/-- The sum of the K-tiles up to `t`. -/
theorem acc_apply (X2 : Vec Ideal S512x5248 .i8) (X3 : Vec Ideal S328x512 .i8) (X5 : Vec Ideal S64x10496 .bf16)
    (X6 : Vec Ideal S328x512 .i32) (t : ℕ) (ht : t < 41) (r : Fin 64) (n : Fin 512) :
    acc (F := Ideal) X2 X5 (scaleBits X3 X6) t ht (ix2 r n)
      = ∑ u : Fin (t + 1), ∑ k : Fin 256,
          X5 (ix2 r ⟨256 * u.val + k.val, by omega⟩) * term X2 X3 ⟨256 * u.val + k.val, by omega⟩ n := by
  induction t with
  | zero => rw [Fin.sum_univ_one]; exact tile_apply _ _ _ _ _ _ _ _
  | succ t ih =>
    rw [Fin.sum_univ_castSucc]
    exact congrArg₂ (· + ·) (ih (by omega)) (tile_apply _ _ _ _ _ _ _ _)

/-- A sum over the contracted positions, K-tile by K-tile. -/
theorem sum_tiles (f : Fin 10496 → EReal) :
    ∑ u : Fin 41, ∑ k : Fin 256, f ⟨256 * u.val + k.val, by omega⟩ = ∑ k, f k := by
  rw [← Fintype.sum_prod_type', ← Equiv.sum_comp (finProdFinEquiv (m := 41) (n := 256)) f]
  refine Finset.sum_congr rfl fun p _ => congrArg f (Fin.ext ?_)
  simp only [finProdFinEquiv_apply_val]; omega

/-- What the body stores, entry by entry. -/
theorem result_apply (X2 : Vec Ideal S512x5248 .i8) (X3 : Vec Ideal S328x512 .i8) (X4 : Vec Ideal S64x512 .bf16)
    (X5 : Vec Ideal S64x10496 .bf16) (X6 : Vec Ideal S328x512 .i32) (r : Fin 64) (n : Fin 512) :
    result (F := Ideal) X2 X4 X5 (scaleBits X3 X6) (ix2 r n)
      = ∑ k : Fin 10496, X5 (ix2 r k) * term X2 X3 k n := by
  unfold result
  refine (congrFun (put_whole X4 ![0, 0] inb_S64x512_S64x512_0_0 _) (ix2 r n)).trans ?_
  refine (acc_apply X2 X3 X5 X6 40 (by omega) r n).trans ?_
  exact sum_tiles fun k => X5 (ix2 r k) * term X2 X3 k n

end Cert.KernelIdeal.Body
-- ==== Proof.Perm.lean ====
/-
  The permuted activations: the product with the 0/1 matrix moves columns and changes no value.
-/
module

public import proofs.«01_k».proof.Proof.Value

@[expose] public section

noncomputable section

namespace Cert.KernelIdeal.Body

open Cert.KernelIdeal Cert.KernelIdeal.Gen
open Idealize.ShloMosaic Idealize.ShloMosaic.ValueIdx
open scoped BigOperators
open Mx

/-- The column that the permuted column `k` comes from. -/
def source (k : ℕ) : ℕ := 32 * (k / 32) + 16 * (k % 2) + k % 32 / 2

theorem source_lt {k t : ℕ} (h : k < 256 * t) : source k < 256 * t := by unfold source; omega

theorem source_add (t k : ℕ) : source (256 * t + k) = 256 * t + source k := by unfold source; omega

/-- The word of the column that the permuted column comes from, as the body computes it. -/
def sourceWord (d : BitVec 32) : BitVec 32 :=
  IntOp.addi (IntOp.addi (IntOp.andi d 4294967264#32) (IntOp.muli (IntOp.andi d 1#32) 16#32))
    (IntOp.shrsi .vector (IntOp.andi d 31#32) 1#32)

theorem sourceWord_ofNat : ∀ j : Fin 256, sourceWord (BitVec.ofNat 32 j.val) = BitVec.ofNat 32 (source j.val) := by
  decide +kernel

theorem cmpi_eq_ofNat {a b : ℕ} (ha : a < 256) (hb : b < 256) :
    IntOp.cmpi .eq (BitVec.ofNat 32 a) (BitVec.ofNat 32 b) = 1#1 ↔ a = b := by
  have h : BitVec.ofNat 32 a = BitVec.ofNat 32 b ↔ a = b := by
    refine ⟨fun h => ?_, congrArg _⟩
    have := congrArg BitVec.toNat h
    simp only [BitVec.toNat_ofNat] at this
    omega
  rw [← h]
  unfold IntOp.cmpi
  by_cases e : BitVec.ofNat 32 a = BitVec.ofNat 32 b
  · simp [e]
  · simp only [beq_false_of_ne e, e, iff_false]; decide

theorem permMatrix_apply (k j : Fin 256) :
    permMatrix (F := Ideal) (ix2 k j) = if k.val = source j.val then (1 : EReal) else 0 := by
  have hi : iota .tc S256x256 32 [1] iota_S256x256_d1_w32 (ix2 k j) = BitVec.ofNat 32 j.val :=
    iota_single_apply _ _ _ _ _ _
  have hk : iota .tc S256x256 32 [0] iota_S256x256_d0_w32 (ix2 k j) = BitVec.ofNat 32 k.val :=
    iota_single_apply _ _ _ _ _ _
  have h : permMatrix (F := Ideal) (ix2 k j)
      = Scalar.select (IntOp.cmpi .eq (iota .tc S256x256 32 [0] iota_S256x256_d0_w32 (ix2 k j))
          (sourceWord (iota .tc S256x256 32 [1] iota_S256x256_d1_w32 (ix2 k j))))
        (Ideal.ofBits .f32 0x3F800000#32) (Ideal.ofBits .f32 0x00000000#32) := rfl
  rw [h, hi, hk, sourceWord_ofNat, Ideal.ofBits_one_f32, Ideal.ofBits_zero_f32]
  unfold Scalar.select
  have := source_lt (k := j.val) (t := 1) (by omega)
  simp only [show ((1 : BitVec 1)) = 1#1 from rfl, cmpi_eq_ofNat k.isLt (by omega : source j.val < 256)]

/-- The permuted tile. -/
theorem permTile_apply (X1 : Vec Ideal S64x10496 .bf16) (t : ℕ) (ht : t < 41) (r : Fin 64) (j : Fin 256) :
    permTile (F := Ideal) X1 t ht (ix2 r j)
      = X1 (ix2 r ⟨source (256 * t + j.val), by have := source_lt (k := 256 * t + j.val) (t := 41) (by omega); omega⟩) := by
  unfold permTile
  rw [shapeCast_self, shapeCast_self]
  refine (Ideal.matmul_plain_apply (M := 64) (K := 256) (N := 256) (φ₁ := .bf16) (φ₂ := .bf16) none _ _ _ r j).trans ?_
  rw [show (constant (F := Ideal) S64x256 .f32 0x00000000#32) (ix2 r j) = (0 : EReal) from Ideal.ofBits_zero_f32,
    zero_add]
  have hs := source_lt (k := j.val) (t := 1) (by omega)
  rw [Finset.sum_eq_single (⟨source j.val, by omega⟩ : Fin 256)]
  · refine (congrArg₂ (· * ·) (inputAt_apply X1 t ht r _) (permMatrix_apply _ j)).trans ?_
    simp only [if_true, mul_one]
    exact congrArg (fun k => X1 (ix2 r k)) (Fin.ext (source_add t j.val).symm)
  · intro k _ hk
    refine (congrArg₂ (· * ·) rfl ((permMatrix_apply k j).trans (if_neg fun e => hk (Fin.ext e)))).trans ?_
    exact mul_zero _
  · intro h; exact absurd (Finset.mem_univ _) h

/-- The activations with their columns moved. -/
def permutedAll (X1 : Vec Ideal S64x10496 .bf16) : Vec Ideal S64x10496 .bf16 := fun i =>
  X1 (ix2 (i 0) ⟨source (i 1).val, by
    have h : (i 1).val < 10496 := (i 1).isLt
    have := source_lt (k := (i 1).val) (t := 41) (by omega); omega⟩)

theorem permuted_apply (X1 X5 : Vec Ideal S64x10496 .bf16) (t : ℕ) (ht : t ≤ 41) (r : Fin 64) (k : Fin 10496)
    (hk : k.val < 256 * t) : permuted (F := Ideal) X1 X5 t ht (ix2 r k) = permutedAll X1 (ix2 r k) := by
  induction t with
  | zero => omega
  | succ t ih =>
    unfold permuted
    by_cases hlt : k.val < 256 * t
    · refine (put_of_ne _ _ _ _ ?_).trans (ih (by omega) hlt)
      intro x hx
      have := congrArg (fun i : S64x10496.Idx => (i 1).val) hx
      have hv : ((Rect.unit (s := S64x10496) ![0, 256 * t] S64x256.size (inb_x t ht)).emb x 1).val
          = 256 * t + (x 1).val := by simp [Rect.emb, Rect.unit]
      have h2 : 256 * t + (x 1).val = k.val := hv.symm.trans this
      omega
    · have hx : (Rect.unit (s := S64x10496) ![0, 256 * t] S64x256.size (inb_x t ht)).emb
          (ix2 r (⟨k.val - 256 * t, by omega⟩ : Fin 256)) = ix2 r k := by
        funext a; apply Fin.ext
        match a with
        | ⟨0, _⟩ => simp [Rect.emb, Rect.unit]
        | ⟨1, _⟩ => exact (show 256 * t + 1 * (k.val - 256 * t) = k.val by omega)
      refine (congrArg (put _ _ _) hx).symm.trans ((put_emb _ _ _ _).trans ((permTile_apply X1 t ht r _).trans ?_))
      exact congrArg (fun k => X1 (ix2 r k)) (Fin.ext (congrArg source
        (show 256 * t + (k.val - 256 * t) = k.val by omega)))

/-- All K-tiles stored, the scratch holds the permuted activations, whatever it held before. -/
theorem permuted_all (X1 X5 : Vec Ideal S64x10496 .bf16) :
    permuted (F := Ideal) X1 X5 41 (le_refl _) = permutedAll X1 := by
  funext i
  rw [eq_ix2 i]
  have h : (i 1).val < 10496 := (i 1).isLt
  exact permuted_apply X1 X5 41 _ (i 0) (i 1) (by omega)

end Cert.KernelIdeal.Body
-- ==== Proof.Blocks.lean ====
/-
  The blocks that a grid point finds and leaves, at coordinates: row block `t` of the codes, column block `t` of the
  scales and of the result; the last blocks reach past the arrays' ends and are cut there.
-/
module

public import proofs.«01_k».proof.Proof.Perm
public import proofs.«01_k».proof.Proof.Gen.KernelIdeal.Points
public import proofs.«01_k».proof.Proof.Gen.KernelIdeal.Frame
public import Idealize.ShloMosaic.Lib.Pipeline.ValueKit.Geometry

@[expose] public section

noncomputable section

namespace Cert.KernelIdeal.Body

open Cert.KernelIdeal Cert.KernelIdeal.Gen
open Idealize.ShloMosaic Idealize.ShloMosaic.ValueIdx
open Idealize.ShloMosaic.TcCoe
open scoped BigOperators
open Mx

variable (m : (ℓ : Loc nD τ sig) → Buf (Elt Ideal) ℓ)

theorem coords_val : ∀ t : Fin cfg0.N, ((grid0.coords t) 0).val = t.val := by decide +kernel

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel
theorem index_3 : ∀ t : Fin cfg0.N, win0_3.index t = ![0, t.val] := by decide +kernel

theorem xsize_1 : ∀ t : Fin cfg0.N, win0_1.xsize (grid0.coords t) = ![min 512 (24448 - 512 * t.val), 5248] := by
  decide +kernel
theorem xsize_2 : ∀ t : Fin cfg0.N, win0_2.xsize (grid0.coords t) = ![328, min 512 (24448 - 512 * t.val)] := by
  decide +kernel
theorem xsize_3 : ∀ t : Fin cfg0.N, win0_3.xsize (grid0.coords t) = ![64, min 512 (24448 - 512 * t.val)] := by
  decide +kernel

/-- The activations, the codes and the transposed scales as the kernel finds them. -/
def xArr (c : Dev nD) : Vec Ideal S64x10496 .bf16 := V m c main_v0
def codeArr (c : Dev nD) : Vec Ideal S24448x5248 .i8 := V m c main_arg1
def scaleArr (c : Dev nD) : Vec Ideal S328x24448 .i8 := V m c main_v1

/-- The activations' one block is the array. -/
theorem iblk_0 (c : Dev nD) (t : Fin cfg0.N) : iblk m c 0 t = xArr m c := by
  funext y
  unfold xArr
  blk_ext [index_0, iblk]

/-- A fetched block of codes. -/
theorem codes_fetched (c : Dev nD) (t : Fin cfg0.N) (d) (n : Fin 512) (k : Fin 5248) (h : 512 * t.val + n.val < 24448) :
    win0_1.fill (grid0.coords t) d (iblk m c 1 t) (ix2 n k) = codeArr m c (ix2 ⟨512 * t.val + n.val, h⟩ k) := by
  have hy : ∀ a : Fin 2, ((ix2 n k : S512x5248.Idx) a).val < win0_1.xsize (grid0.coords t) a := fun a => by
    rw [xsize_1]
    match a with
    | ⟨0, _⟩ => exact lt_min n.isLt (show n.val < 24448 - 512 * t.val by omega)
    | ⟨1, _⟩ => exact k.isLt
  refine (win0_1.fill_xinj (grid0.coords t) d (iblk m c 1 t) fun a => ⟨((ix2 n k : S512x5248.Idx) a).val, hy a⟩).trans ?_
  unfold codeArr
  blk_ext [index_1, iblk]
  exact (show t.val * 512 + n.val = 512 * t.val + n.val by omega)

/-- A fetched block of scales. -/
theorem scales_fetched (c : Dev nD) (t : Fin cfg0.N) (d) (k : Fin 328) (n : Fin 512) (h : 512 * t.val + n.val < 24448) :
    win0_2.fill (grid0.coords t) d (iblk m c 2 t) (ix2 k n) = scaleArr m c (ix2 k ⟨512 * t.val + n.val, h⟩) := by
  have hy : ∀ a : Fin 2, ((ix2 k n : S328x512.Idx) a).val < win0_2.xsize (grid0.coords t) a := fun a => by
    rw [xsize_2]
    match a with
    | ⟨0, _⟩ => exact k.isLt
    | ⟨1, _⟩ => exact lt_min n.isLt (show n.val < 24448 - 512 * t.val by omega)
  refine (win0_2.fill_xinj (grid0.coords t) d (iblk m c 2 t) fun a => ⟨((ix2 k n : S328x512.Idx) a).val, hy a⟩).trans ?_
  unfold scaleArr
  blk_ext [index_2, iblk]
  exact (show t.val * 512 + n.val = 512 * t.val + n.val by omega)

/-- The result: entry (r, n) sums the permuted activations times the scaled weights of row `n`. -/
def out (c : Dev nD) : Vec Ideal S64x24448 .bf16 := fun i =>
  ∑ k : Fin 10496, permutedAll (xArr m c) (ix2 (i 0) k)
    * (weight (codeArr m c (ix2 (i 1) ⟨k.val / 2, by omega⟩)) (k.val % 2)
      * scale (scaleArr m c (ix2 ⟨k.val / 32, by omega⟩ (i 1))))

/-- Column block `t` of the result, zero past the array's end. -/
def outBlock (c : Dev nD) (t : Fin cfg0.N) : Vec Ideal S64x512 .bf16 := fun j =>
  if h : 512 * t.val + (j 1).val < 24448 then out m c (ix2 (j 0) ⟨512 * t.val + (j 1).val, h⟩) else 0

/-- What the body stores agrees with the result's block on the columns inside the array. -/
theorem cut_result (c : Dev nD) (t : Fin cfg0.N) (d1 d2 X4) (X6 : Vec Ideal S328x512 .i32) :
    win0_3.cut (grid0.coords t) (outBlock m c t)
      = win0_3.cut (grid0.coords t) (result (F := Ideal) (win0_1.fill (grid0.coords t) d1 (iblk m c 1 t)) X4
          (permutedAll (xArr m c)) (scaleBits (win0_2.fill (grid0.coords t) d2 (iblk m c 2 t)) X6)) := by
  funext j
  have h1 : (j 1).val < min 512 (24448 - 512 * t.val) := by
    have := (j 1).isLt
    have e : (win0_3.xblock (grid0.coords t)).size 1 = min 512 (24448 - 512 * t.val) :=
      congrFun (xsize_3 t) 1
    omega
  have h0 : (j 0).val < 64 := by
    have := (j 0).isLt
    have e : (win0_3.xblock (grid0.coords t)).size 0 = 64 := congrFun (xsize_3 t) 0
    omega
  have hj : win0_3.xinj (grid0.coords t) j = ix2 (⟨(j 0).val, h0⟩ : Fin 64) (⟨(j 1).val, by omega⟩ : Fin 512) := by
    funext a; apply Fin.ext
    match a with
    | ⟨0, _⟩ => rfl
    | ⟨1, _⟩ => rfl
  have hn : 512 * t.val + (j 1).val < 24448 := by omega
  unfold Pipeline.Window.cut
  rw [hj, result_apply]
  refine (dif_pos hn).trans (Finset.sum_congr rfl fun k _ => congrArg₂ (· * ·) rfl ?_)
  unfold term
  rw [codes_fetched m c t d1 _ _ hn, scales_fetched m c t d2 _ _ hn]

end Cert.KernelIdeal.Body
-- ==== Proof.Body.lean ====
/-
  The run of the whole body of the kernel: it ends with the sum of the tiles in its output block.
-/
module

public import proofs.«01_k».proof.Proof.Tile

@[expose] public section

noncomputable section

namespace Cert.KernelIdeal.Body

open Cert.KernelIdeal Cert.KernelIdeal.Gen
open Idealize.ShloMosaic
open Idealize.ShloMosaic.TcCoe
open Idealize.SL
open Idealize.SL.RA
open Idealize.SL.BI
open scoped Idealize.SL.BI
open Mx

variable {F : FTy → Type} [FloatOps F]

/-- The body's test for the first grid point. -/
theorem first_iff (i : grid0.Coords) :
    Scalar.cmpi .ne (Scalar.extui (Scalar.cmpi .eq (BitVec.ofNat 32 (i 0).val) 0#32)) 0#32 = 1#1
      ↔ (i 0).val = 0 := by
  have h : (i 0).val < 48 := (i 0).isLt
  generalize (i 0).val = n at h
  revert n
  decide

set_option maxHeartbeats 0 in
/-- The body permutes the activations into the fifth buffer at the first grid point and keeps that buffer at the
    others; it expands the scales into the sixth and stores the sum of the tiles in the fourth. -/
theorem runs (defs : Defs nD τ sig (Elt F) Λ₀) (𝒱 : Variants) (c : Dev nD) (i : grid0.Coords)

    (arg1 : Memref sig .tc .vmem S64x10496 .bf16) (harg1 : arg1.IsWhole)
    (arg2 : Memref sig .tc .vmem S512x5248 .i8) (harg2 : arg2.IsWhole)
    (arg3 : Memref sig .tc .vmem S328x512 .i8) (harg3 : arg3.IsWhole)
    (arg4 : Memref sig .tc .vmem S64x512 .bf16) (harg4 : arg4.IsWhole)
    (arg5 : Memref sig .tc .vmem S64x10496 .bf16) (harg5 : arg5.IsWhole)
    (arg6 : Memref sig .tc .vmem S328x512 .i32) (harg6 : arg6.IsWhole)
    (X1 : Vec F S64x10496 .bf16) (X2 : Vec F S512x5248 .i8) (X3 : Vec F S328x512 .i8) (X4 : Vec F S64x512 .bf16) (X5 : Vec F S64x10496 .bf16) (X6 : Vec F S328x512 .i32) (Y5 : Vec F S64x10496 .bf16)
    (h0 : (i 0).val = 0 → Y5 = permuted X1 X5 41 (by omega))
    (h1 : (i 0).val ≠ 0 → Y5 = X5) :
    Runs defs 𝒱 c arg1 arg2 arg3 arg4 arg5 arg6 X1 X2 X3 X4 X5 X6
      (cc0_mxfp4_linear i arg1 harg1 arg2 harg2 arg3 harg3 arg4 harg4 arg5 harg5 arg6 harg6)
      (result X2 X4 Y5 (scaleBits X3 X6)) Y5 (scaleBits X3 X6) ⟨⟩ := by
  refine Runs.dite (Z4 := fun Y5 => result X2 X4 Y5 (scaleBits X3 X6)) ?_ ?_ ?_
  · intro X5
    refine Runs.load3 ?_
    refine Runs.load6 ?_
    refine Runs.store6 ?_
    generalize hX6 : put X6 _ _ = X6'
    obtain rfl : scaleBits X3 X6 = X6' := hX6
    generalize scaleBits X3 X6 = X6'
    refine Runs.load2 ?_
    iterate 8 refine Runs.load6 ?_
    iterate 3
      refine Runs.load2 ?_
      iterate 8 refine Runs.load6 ?_
    refine Runs.load5 ?_
    refine Runs.load2 ?_
    generalize hx : matmul (F := F) dot_S64x256_S256x512_S64x512_1_0_0_1_n_n _ _ _ _ = a
    replace hx := acc_first hx
    subst hx
    iterate 39
      iterate 8 refine Runs.load6 ?_
      iterate 3
        refine Runs.load2 ?_
        iterate 8 refine Runs.load6 ?_
      refine Runs.load5 ?_
      refine Runs.load2 ?_
      generalize hx : addf (F := F) _ (matmul (F := F) dot_S64x256_S256x512_S64x512_1_0_0_1_n_n _ _ _ _) = a
      have e := acc_next hx (by decide)
      clear hx
      replace e := e rfl
      subst e
    iterate 8 refine Runs.load6 ?_
    iterate 3
      refine Runs.load2 ?_
      iterate 8 refine Runs.load6 ?_
    refine Runs.load5 ?_
    refine Runs.load4 ?_
    generalize hx : addf (F := F) _ (matmul (F := F) dot_S64x256_S256x512_S64x512_1_0_0_1_n_n _ _ _ _) = a
    have e := acc_next hx (by decide)
    clear hx
    replace e := e rfl
    subst e
    refine Runs.store4 ?_
    exact Runs.ret rfl rfl rfl rfl
  · intro h tail
    have hY := h0 ((first_iff i).1 h)
    subst hY
    iterate 41
      refine Runs.load1 ?_
      refine Runs.load5 ?_
      refine Runs.store5 ?_
    exact tail _
  · intro h
    exact h1 fun e => h ((first_iff i).2 e)

end Cert.KernelIdeal.Body
-- ==== Proof.IdealRun.lean ====
/-
  The kernel's run over the ideal floats: it ends, the result array holding `out`, its arguments unchanged and every
  counter at zero.  After the first grid point the activation scratch holds the permuted activations.
-/
module

public import proofs.«01_k».proof.Proof.Blocks
public import proofs.«01_k».proof.Proof.Body
public import Idealize.ShloMosaic.Lib.Pipeline.Frame

@[expose] public section

noncomputable section

namespace Cert.KernelIdeal.Body

open Cert.KernelIdeal Cert.KernelIdeal.Gen
open Idealize.ShloMosaic
open Idealize.ShloMosaic.TcCoe
open Idealize.SL
open Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Mx

local notation "𝕄" => MT nD τ sig Unit (Elt Ideal) ℕ (UR sig nD τ) ℕ

variable (m : (ℓ : Loc nD τ sig) → Buf (Elt Ideal) ℓ) (ρ : Dev nD → PrngReg)

/-- The state carried from point to point: past the first, the activation scratch holds the permuted activations. -/
def carried (c : Dev nD) (t : ℕ) : sProp 𝕄 :=
  iprop((∃ X5 : Vec Ideal S64x10496 .bf16, ⌜t ≠ 0 → X5 = permutedAll (xArr m c)⌝
      ∗ owns (c : Thread nD τ) (Memref.whole cc0_scratch0) fullShare X5)
    ∗ (∃ X6 : Vec Ideal S328x512 .i32, owns (c : Thread nD τ) (Memref.whole cc0_scratch1) fullShare X6)
    ∗ ∃ r, prngReg c r)

/-- The proof data: what each staging buffer holds after the body. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0#8 : BitVec 8)) (iblk m c 2 t)
    | ⟨3, _⟩ => outBlock m c t
  Φ t := carried m c t.val
  q _ := fullShare
  owed _ := 0

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) :
    (dats m 0 c).before 1 t d = win0_1.fill (grid0.coords t) d (iblk m c 1 t) := by
  unfold Dat.before; rw [if_pos (fetch0_1 t)]; rfl

theorem before_2 (c : Dev nD) (t : Fin cfg0.N) (d) :
    (dats m 0 c).before 2 t d = win0_2.fill (grid0.coords t) d (iblk m c 2 t) := by
  unfold Dat.before; rw [if_pos (fetch0_2 t)]; rfl

theorem body_obligation (c : Dev nD) :
    BodyObligationLoose (dats m 0 c) (defs₀ (F := Ideal)) Variants.none () Set.univ := fun t => by
  rw [bigSep_W0, bigSep_W0]
  simp only
  rw [show (dats m 0 c).Φ t.succ = carried m c (t.val + 1) from rfl,
    show (dats m 0 c).Φ t.castSucc = carried m c t.val from rfl,
    show (dats m 0 c).owesAt () t.succ = (dats m 0 c).owesAt () t.castSucc from rfl]
  unfold carried
  iintro ⟨⟨⟨%X5, %h5, H5⟩, ⟨%X6, H6⟩, Hp⟩, Ho, ⟨%d1, H1⟩, ⟨%d2, H2⟩, ⟨%d3, H3⟩, ⟨%d4, H4⟩⟩
  rw [before_0 m c t d1, before_1 m c t d2, before_2 m c t d3, iblk_0]
  have h := runs (defs₀ (F := Ideal)) Variants.none c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (xArr m c) (win0_1.fill (grid0.coords t) d2 (iblk m c 1 t)) (win0_2.fill (grid0.coords t) d3 (iblk m c 2 t))
    ((dats m 0 c).before 3 t d4) X5 X6 (permutedAll (xArr m c))
    (fun _ => (permuted_all _ _).symm) (fun hne => (h5 (by rw [← coords_val t]; exact hne)).symm)
  iapply (h.wp Set.univ _)
  isplitl [H1 H2 H3 H4 H5 H6]
  · unfold held
    isplitl [H1]; · iexact H1
    isplitl [H2]; · iexact H2
    isplitl [H3]; · iexact H3
    isplitl [H4]; · iexact H4
    isplitl [H5]; · iexact H5
    iexact H6
  · unfold held
    iintro ⟨H1, H2, H3, H4, H5, H6⟩
    isplitl [H5 H6 Hp]
    · isplitl [H5]
      · iexists (permutedAll (xArr m c))
        isplitr
        · ipureintro; exact fun _ => rfl
        · iexact H5
      isplitl [H6]
      · iexists (scaleBits (win0_2.fill (grid0.coords t) d3 (iblk m c 2 t)) X6); iexact H6
      · iexact Hp
    isplitl [Ho]; · iexact Ho
    isplitl [H1]
    · change _ ⊢ owns (c : Thread nD τ) (win0_0.stage (cfg0.slots t 0)) fullShare (iblk m c 0 t)
      rw [iblk_0]
    isplitl [H2]
    · iexists d2
      change _ ⊢ owns (c : Thread nD τ) (win0_1.stage (cfg0.slots t 1)) fullShare
        (win0_1.fill (grid0.coords t) d2 (win0_1.cut (grid0.coords t)
          (win0_1.fill (grid0.coords t) (fun _ => (0#8 : BitVec 8)) (iblk m c 1 t))))
      rw [win0_1.cut_fill]
    isplitl [H3]
    · iexists d3
      change _ ⊢ owns (c : Thread nD τ) (win0_2.stage (cfg0.slots t 2)) fullShare
        (win0_2.fill (grid0.coords t) d3 (win0_2.cut (grid0.coords t)
          (win0_2.fill (grid0.coords t) (fun _ => (0#8 : BitVec 8)) (iblk m c 2 t))))
      rw [win0_2.cut_fill]
    · iexists (result (F := Ideal) (win0_1.fill (grid0.coords t) d2 (iblk m c 1 t)) ((dats m 0 c).before 3 t d4)
        (permutedAll (xArr m c)) (scaleBits (win0_2.fill (grid0.coords t) d3 (iblk m c 2 t)) X6))
      change _ ⊢ owns (c : Thread nD τ) (win0_3.stage (cfg0.slots t 3)) fullShare
        (win0_3.fill (grid0.coords t) _ (win0_3.cut (grid0.coords t) (outBlock m c t)))
      rw [cut_result m c t d2 d3 ((dats m 0 c).before 3 t d4) X6, win0_3.fill_cut]

/-- The result array after the run. -/
theorem arrAt_out (c : Dev nD) : (dats m 0 c).arrAt 3 cfg0.N = out m c := by
  refine (dats m 0 c).arrAt_eq_of_covers 3 (out m c) (by decide +kernel) fun t _ y => ?_
  have h1 : (y 1).val < min 512 (24448 - 512 * t.val) := by
    have := (y 1).isLt
    have e : (win0_3.xblock (grid0.coords t)).size 1 = min 512 (24448 - 512 * t.val) := congrFun (xsize_3 t) 1
    exact e ▸ this
  have hn : 512 * t.val + (y 1).val < 24448 := by omega
  refine (dif_pos hn : outBlock m c t (win0_3.xinj (grid0.coords t) y) = _).trans ?_
  refine congrArg (out m c) ?_
  blk_ext [index_3]

set_option backward.isDefEq.respectTransparency.types false in
/-- The kernel ends with `out` in its result array, its arguments unchanged and every counter at zero. -/
theorem run : θ_run defs (onTc (τ := τ) (main (F := Ideal))) (s₀ m ρ) (fun r => (∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_track cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := fun _ _ => rfl)
    (hin := fun c => by
      unfold Pipeline.ΦA
      rw [scopedRest0_eq, show (dats m 0 c).Φ 0 = carried m c 0 from rfl]
      unfold carried
      simp only [owns_whole_eq]
      iintro ⟨⟨⟨%f5, H5⟩, ⟨%f6, H6⟩⟩, Hp⟩
      isplitl [H5]
      · iexists f5
        isplitr
        · ipureintro; exact fun h => absurd rfl h
        · iexists f5; isplitr
          · ipureintro; rfl
          · iexact H5
      isplitl [H6]
      · iexists f6
        iexists f6; isplitr
        · ipureintro; rfl
        · iexact H6
      · iexact Hp)
    (hout := fun c => by
      unfold Pipeline.ΦA
      rw [scopedRest0_eq, show (dats m 0 c).Φ (Fin.last cfg0.N) = carried m c cfg0.N from rfl]
      unfold carried
      simp only [owns_whole_eq]
      iintro ⟨⟨%X5, -, ⟨%g5, -, H5⟩⟩, ⟨%X6, ⟨%g6, -, H6⟩⟩, Hp⟩
      isplitl [H5 H6]
      · isplitl [H5]
        · iexists g5; iexact H5
        · iexists g6; iexact H6
      · iexact Hp)
    (Q' := _)
    (hQ' := fun r h => ⟨fun c => ⟨((h.1 c).1 3).trans (arrAt_out m c),
        ((h.1 c).2 main_arg0 (Pipeline.mem_restRefs_of main_arg0 (by decide) (by decide))).trans (V_main_arg0 m c),
        ((h.1 c).1 1).trans (((dats m 0 c).arrAt_in 1 rfl _).trans (V_main_arg1 m c)),
        ((h.1 c).2 main_arg2 (Pipeline.mem_restRefs_of main_arg2 (by decide) (by decide))).trans (V_main_arg2 m c)⟩,
      h.2⟩)

end Cert.KernelIdeal.Body
-- ==== Proof.Reference.lean ====
/-
  What the reference computes, entry by entry: the sum over the bytes of a row of codes of the first half block's
  activation times the low code's scaled value, plus the same for the second half blocks and the high codes.
-/
module

public import proofs.«01_k».proof.Proof.Gen.ReferenceIdeal.Read
public import Idealize.ShloMosaic.Lib.ValueIdx

@[expose] public section

noncomputable section

namespace Cert.ReferenceIdeal.Body

open Cert.ReferenceIdeal Cert.ReferenceIdeal.Gen Cert.ReferenceIdeal.Read
open Idealize.ShloMosaic Idealize.ShloMosaic.ValueIdx
open scoped BigOperators

/-- The reference's value of an e2m1 code: a choice of magnitude by its three low bits, negated by the fourth. -/
def magnitude (c : BitVec 32) : EReal :=
  Scalar.select (IntOp.cmpi .ne (IntOp.andi c 4#32) 0#32)
    (Scalar.select (IntOp.cmpi .ne (IntOp.andi c 2#32) 0#32)
      (Scalar.select (IntOp.cmpi .ne (IntOp.andi c 1#32) 0#32)
        (Ideal.ofBits .bf16 0x40C0#16) (Ideal.ofBits .bf16 0x4080#16))
      (Scalar.select (IntOp.cmpi .ne (IntOp.andi c 1#32) 0#32)
        (Ideal.ofBits .bf16 0x4040#16) (Ideal.ofBits .bf16 0x4000#16)))
    (Scalar.select (IntOp.cmpi .ne (IntOp.andi c 2#32) 0#32)
      (Scalar.select (IntOp.cmpi .ne (IntOp.andi c 1#32) 0#32)
        (Ideal.ofBits .bf16 0x3FC0#16) (Ideal.ofBits .bf16 0x3F80#16))
      (Scalar.select (IntOp.cmpi .ne (IntOp.andi c 1#32) 0#32)
        (Ideal.ofBits .bf16 0x3F00#16) (Ideal.ofBits .bf16 0x0000#16)))

def code (c : BitVec 32) : EReal :=
  Scalar.select (IntOp.cmpi .ne (IntOp.andi c 8#32) 0#32) (-magnitude c) (magnitude c)

/-- The reference's power of two with a biased exponent byte. -/
def power (b : BitVec 8) : EReal :=
  Scalar.select (IntOp.cmpi .slt (IntOp.subi (b.setWidth 32) 127#32) 4294967170#32) (Ideal.ofBits .f32 0x00000000#32)
    (Scalar.select (IntOp.cmpi .sgt (IntOp.subi (b.setWidth 32) 127#32) 127#32) (Ideal.ofBits .f32 0x7F800000#32)
      (Ideal.pow (Ideal.ofBits .f32 0x40000000#32) (((IntOp.subi (b.setWidth 32) 127#32).toInt : ℝ) : EReal)))

variable (x0 : Vec Ideal S64x1x10496 .bf16) (x1 : Vec Ideal S24448x5248 .i8) (x2 : Vec Ideal S24448x328 .i8)

theorem low_apply (i : S24448x5248.Idx) :
    val_main_v42 (F := Ideal) x1 i = code (IntOp.andi ((x1 i).setWidth 32) 15#32) := rfl

theorem high_apply (i : S24448x5248.Idx) :
    val_main_v70 (F := Ideal) x1 i = code (IntOp.shrsi .vector ((x1 i).setWidth 32) 4#32) := rfl

theorem power_apply (i : S24448x328.Idx) : val_main_v12 (F := Ideal) x2 i = power (x2 i) := by
  rw [val_main_v12_apply, val_main_v11_apply, val_main_v10_apply, val_main_v9_apply, val_main_v7_apply,
    val_main_v5_apply, val_main_v3_apply, val_main_v2_apply]
  simp only [val_main_v0_apply, val_main_v1_apply, val_main_v4_apply, val_main_v6_apply, val_main_v8_apply]
  unfold power
  rfl

/-- A block's scale stands at each of its sixteen bytes. -/
theorem scales_apply (n : Fin 24448) (p : Fin 5248) :
    val_main_v14 (F := Ideal) x2 (ix2 n p) = power (x2 (ix2 n ⟨p.val / 16, by omega⟩)) := by
  rw [val_main_v14_apply, val_main_v13_apply, power_apply]
  refine congrArg (fun i => power (x2 i)) ?_
  funext a; apply Fin.ext
  match a with
  | ⟨0, _⟩ => exact (show (n.val * 5248 + p.val) / 5248 = n.val by omega)
  | ⟨1, _⟩ => exact (show (n.val * 5248 + p.val) / 16 % 328 = p.val / 16 by omega)

/-- Position `p` of a row of half blocks is entry `p % 16` of half block `p / 16`. -/
theorem half_index (r : Fin 64) (p : Fin 5248) :
    idx_main_v75 (ix3 r 0 p) = ix4 r 0 (⟨p.val / 16, by omega⟩ : Fin 328) (⟨p.val % 16, by omega⟩ : Fin 16) := by
  funext a; apply Fin.ext
  match a with
  | ⟨0, _⟩ => exact (show ((r.val * 1 + 0) * 5248 + p.val) / 5248 = r.val by omega)
  | ⟨1, _⟩ => rfl
  | ⟨2, _⟩ => exact (show ((r.val * 1 + 0) * 5248 + p.val) / 16 % 328 = p.val / 16 by omega)
  | ⟨3, _⟩ => exact (show ((r.val * 1 + 0) * 5248 + p.val) % 16 = p.val % 16 by omega)

theorem slice_index (r : Fin 64) (b : Fin 328) (j : Fin 16) : idx_main_v74 (ix4 r 0 b j) = ix5 r 0 b 0 j := by
  funext a; apply Fin.ext
  match a with
  | ⟨0, _⟩ => exact (show (((r.val * 1 + 0) * 328 + b.val) * 16 + j.val) / 5248 = r.val by omega)
  | ⟨1, _⟩ => rfl
  | ⟨2, _⟩ => exact (show (((r.val * 1 + 0) * 328 + b.val) * 16 + j.val) / 16 % 328 = b.val by omega)
  | ⟨3, _⟩ => rfl
  | ⟨4, _⟩ => exact (show (((r.val * 1 + 0) * 328 + b.val) * 16 + j.val) % 16 = j.val by omega)

/-- Entry `j` of half `h` of block `b` is position `32 b + 16 h + j`. -/
theorem block_index (r : Fin 64) (b : Fin 328) (h : Fin 2) (j : Fin 16) :
    idx_main_v72 (ix5 r 0 b h j) = ix3 r 0 ⟨32 * b.val + 16 * h.val + j.val, by omega⟩ := by
  funext a; apply Fin.ext
  match a with
  | ⟨0, _⟩ => exact (show ((((r.val * 1 + 0) * 328 + b.val) * 2 + h.val) * 16 + j.val) / 10496 = r.val by omega)
  | ⟨1, _⟩ => rfl
  | ⟨2, _⟩ => exact (show ((((r.val * 1 + 0) * 328 + b.val) * 2 + h.val) * 16 + j.val) % 10496
      = 32 * b.val + 16 * h.val + j.val by omega)

/-- Entry (r, p) of the first half blocks. -/
theorem first_apply (r : Fin 64) (p : Fin 5248) :
    val_main_v75 (F := Ideal) x0 (ix3 r 0 p) = x0 (ix3 r 0 ⟨32 * (p.val / 16) + p.val % 16, by omega⟩) := by
  have hs : ∀ (b : Fin 328) (j : Fin 16), idx_main_v73 (ix5 r 0 b 0 j) = ix5 r 0 b 0 j := fun b j => by
    funext a; match a with | ⟨0, _⟩ => rfl | ⟨1, _⟩ => rfl | ⟨2, _⟩ => rfl | ⟨3, _⟩ => rfl | ⟨4, _⟩ => rfl
  rw [val_main_v75_apply, half_index, val_main_v74_apply, slice_index, val_main_v73_apply, hs, val_main_v72_apply,
    block_index]
  rfl

/-- Entry (r, p) of the second half blocks. -/
theorem second_apply (r : Fin 64) (p : Fin 5248) :
    val_main_v78 (F := Ideal) x0 (ix3 r 0 p) = x0 (ix3 r 0 ⟨32 * (p.val / 16) + 16 + p.val % 16, by omega⟩) := by
  have hs : ∀ (b : Fin 328) (j : Fin 16), idx_main_v76 (ix5 r 0 b 0 j) = ix5 r 0 b 1 j := fun b j => by
    funext a; match a with | ⟨0, _⟩ => rfl | ⟨1, _⟩ => rfl | ⟨2, _⟩ => rfl | ⟨3, _⟩ => rfl | ⟨4, _⟩ => rfl
  rw [val_main_v78_apply, show idx_main_v78 = idx_main_v75 from rfl, half_index, val_main_v77_apply,
    show idx_main_v77 = idx_main_v74 from rfl, slice_index, val_main_v76_apply, hs, val_main_v72_apply, block_index]
  rfl

/-- The reference's result. -/
theorem result_apply (r : Fin 64) (n : Fin 24448) :
    val_main_v83 (F := Ideal) x0 x1 x2 (ix2 r n)
      = (∑ p : Fin 5248, x0 (ix3 r 0 ⟨32 * (p.val / 16) + p.val % 16, by omega⟩)
            * (code (IntOp.andi ((x1 (ix2 n p)).setWidth 32) 15#32) * power (x2 (ix2 n ⟨p.val / 16, by omega⟩))))
        + ∑ p : Fin 5248, x0 (ix3 r 0 ⟨32 * (p.val / 16) + 16 + p.val % 16, by omega⟩)
            * (code (IntOp.shrsi .vector ((x1 (ix2 n p)).setWidth 32) 4#32)
              * power (x2 (ix2 n ⟨p.val / 16, by omega⟩))) := by
  rw [val_main_v83_apply]
  have hi : idx_main_v83 (ix2 r n) = ix3 r 0 n := by
    funext a; apply Fin.ext
    match a with
    | ⟨0, _⟩ => exact (show (r.val * 24448 + n.val) / 24448 = r.val by omega)
    | ⟨1, _⟩ => rfl
    | ⟨2, _⟩ => exact (show (r.val * 24448 + n.val) % 24448 = n.val by omega)
  rw [hi, val_main_v82_apply, val_main_v81_apply, val_main_v79_apply, val_main_v80_apply]
  refine congrArg₂ (· + ·) (Finset.sum_congr rfl fun p _ => ?_) (Finset.sum_congr rfl fun p _ => ?_)
  · have hl : lidx_main_v79 (ix3 r 0 n) p = ix3 r 0 p := by
      funext a; match a with | ⟨0, _⟩ => rfl | ⟨1, _⟩ => rfl | ⟨2, _⟩ => rfl
    have hr : ridx_main_v79 (ix3 r 0 n) p = ix2 n p := by
      funext a; match a with | ⟨0, _⟩ => rfl | ⟨1, _⟩ => rfl
    rw [hl, hr, first_apply, val_main_v43_apply, low_apply, scales_apply]
    rfl
  · have hl : lidx_main_v80 (ix3 r 0 n) p = ix3 r 0 p := by
      funext a; match a with | ⟨0, _⟩ => rfl | ⟨1, _⟩ => rfl | ⟨2, _⟩ => rfl
    have hr : ridx_main_v80 (ix3 r 0 n) p = ix2 n p := by
      funext a; match a with | ⟨0, _⟩ => rfl | ⟨1, _⟩ => rfl
    rw [hl, hr, second_apply, val_main_v71_apply, high_apply, scales_apply]
    rfl

end Cert.ReferenceIdeal.Body
-- ==== Proof.Bytes.lean ====
/-
  The kernel's and the reference's readings of one byte are the same values: the two codes of a byte of codes, and the
  power of two of a byte of scales.
-/
module

public import proofs.«01_k».proof.Proof.Words
public import proofs.«01_k».proof.Proof.Reference

@[expose] public section

noncomputable section

namespace Cert.Equation

open Idealize.ShloMosaic
open Cert.KernelIdeal.Body (codeBits codeWord weight scaleWord scale)
open Cert.ReferenceIdeal.Body (magnitude code power)

/-! ## Codes -/

/-- Setting the sign bit of a bf16 pattern negates its value. -/
theorem ofBits_sign (w : BitVec 16) (h1 : w.extractLsb' 15 1 = 0#1) (h2 : (w.extractLsb' 7 8).toNat ≠ 255)
    (v : BitVec 16) (h3 : v.extractLsb' 15 1 = 1#1) (h4 : v.extractLsb' 7 8 = w.extractLsb' 7 8)
    (h5 : v.extractLsb' 0 7 = w.extractLsb' 0 7) : Ideal.ofBits .bf16 v = -Ideal.ofBits .bf16 w := by
  have n1 : ((w.extractLsb' 15 1) == 1#1) = false := by rw [h1]; rfl
  have n3 : ((v.extractLsb' 15 1) == 1#1) = true := by rw [h3]; rfl
  simp only [Ideal.ofBits, Ideal.ieee, Nat.reduceAdd, Nat.reducePow, Nat.reduceSub, n1, n3, h4, h5, if_neg h2]
  split <;> rw [← EReal.coe_neg] <;> congr 1 <;> simp only [if_true, Bool.false_eq_true, if_false] <;> ring

/-- The low half of the bits that the kernel makes of a code. -/
theorem codeBits_pos : ∀ c : Fin 8, (codeBits (BitVec.ofNat 32 c.val)).extractLsb' 0 16
    = ![0x0000#16, 0x3F00#16, 0x3F80#16, 0x3FC0#16, 0x4000#16, 0x4040#16, 0x4080#16, 0x40C0#16] c := by decide +kernel

theorem codeBits_sign : ∀ c : Fin 8,
    let w := (codeBits (BitVec.ofNat 32 c.val)).extractLsb' 0 16
    let v := (codeBits (BitVec.ofNat 32 (8 + c.val))).extractLsb' 0 16
    w.extractLsb' 15 1 = 0#1 ∧ (w.extractLsb' 7 8).toNat ≠ 255 ∧ v.extractLsb' 15 1 = 1#1
      ∧ v.extractLsb' 7 8 = w.extractLsb' 7 8 ∧ v.extractLsb' 0 7 = w.extractLsb' 0 7 := by decide +kernel

/-- The reference's magnitude is the value of the kernel's bits. -/
theorem magnitude_eq (c : Fin 8) :
    Ideal.ofBits .bf16 ((codeBits (BitVec.ofNat 32 c.val)).extractLsb' 0 16) = magnitude (BitVec.ofNat 32 c.val) := by
  have hb : ∀ c : Fin 8,
      IntOp.cmpi .ne (IntOp.andi (BitVec.ofNat 32 c.val) 1#32) 0#32 = ![0#1, 1#1, 0#1, 1#1, 0#1, 1#1, 0#1, 1#1] c
      ∧ IntOp.cmpi .ne (IntOp.andi (BitVec.ofNat 32 c.val) 2#32) 0#32 = ![0#1, 0#1, 1#1, 1#1, 0#1, 0#1, 1#1, 1#1] c
      ∧ IntOp.cmpi .ne (IntOp.andi (BitVec.ofNat 32 c.val) 4#32) 0#32 = ![0#1, 0#1, 0#1, 0#1, 1#1, 1#1, 1#1, 1#1] c := by
    decide +kernel
  obtain ⟨h1, h2, h4⟩ := hb c
  rw [codeBits_pos]
  unfold magnitude
  rw [h1, h2, h4]
  fin_cases c <;> simp [Scalar.select]

theorem magnitude_sign (c : Fin 8) : magnitude (BitVec.ofNat 32 (8 + c.val)) = magnitude (BitVec.ofNat 32 c.val) := by
  have h : ∀ (c : Fin 8) (k : Fin 3), IntOp.andi (BitVec.ofNat 32 (8 + c.val)) (![1#32, 2#32, 4#32] k)
      = IntOp.andi (BitVec.ofNat 32 c.val) (![1#32, 2#32, 4#32] k) := by decide +kernel
  have h0 := h c 0; have h1 := h c 1; have h2 := h c 2
  simp only [Matrix.cons_val] at h0 h1 h2
  simp only [magnitude, h0, h1, h2]

theorem code_eq (c : Fin 16) :
    Ideal.ofBits .bf16 ((codeBits (BitVec.ofNat 32 c.val)).extractLsb' 0 16) = code (BitVec.ofNat 32 c.val) := by
  have hb : ∀ c : Fin 16, IntOp.cmpi .ne (IntOp.andi (BitVec.ofNat 32 c.val) 8#32) 0#32
      = if c.val < 8 then 0#1 else 1#1 := by decide +kernel
  unfold code
  rw [hb]
  by_cases h : c.val < 8
  · rw [if_pos h]
    exact (magnitude_eq ⟨c.val, h⟩).trans (if_neg (by decide)).symm
  · rw [if_neg h]
    have hc : c.val = 8 + (c.val - 8) := by omega
    obtain ⟨k1, k2, k3, k4, k5⟩ := codeBits_sign ⟨c.val - 8, by omega⟩
    have hs := ofBits_sign _ k1 k2 _ k3 k4 k5
    rw [magnitude_eq, ← magnitude_sign] at hs
    simp only [← hc] at hs
    exact hs.trans (if_pos rfl).symm

theorem low_word : ∀ b : BitVec 8, (codeWord b).extractLsb' 0 16
    = (codeBits (BitVec.ofNat 32 (b.toNat % 16))).extractLsb' 0 16 := by decide +kernel

theorem high_word : ∀ b : BitVec 8, (codeWord b).extractLsb' 16 16
    = (codeBits (BitVec.ofNat 32 (b.toNat / 16))).extractLsb' 0 16 := by decide +kernel

theorem low_nibble : ∀ b : BitVec 8, IntOp.andi (b.setWidth 32) 15#32 = BitVec.ofNat 32 (b.toNat % 16) := by
  decide +kernel

theorem high_nibble : ∀ b : BitVec 8, IntOp.shrsi .vector (b.setWidth 32) 4#32 = BitVec.ofNat 32 (b.toNat / 16) := by
  decide +kernel

/-- The low code of a byte. -/
theorem weight_low (b : BitVec 8) : weight b 0 = code (IntOp.andi (b.setWidth 32) 15#32) := by
  rw [low_nibble]
  exact (congrArg (Ideal.ofBits .bf16) (low_word b)).trans (code_eq ⟨b.toNat % 16, by omega⟩)

/-- The high code of a byte. -/
theorem weight_high (b : BitVec 8) : weight b 1 = code (IntOp.shrsi .vector (b.setWidth 32) 4#32) := by
  rw [high_nibble]
  exact (congrArg (Ideal.ofBits .bf16) (high_word b)).trans (code_eq ⟨b.toNat / 16, by have := b.isLt; omega⟩)

/-! ## Scales -/

theorem scale_fields : ∀ b : BitVec 8,
    let w := (scaleWord b).extractLsb' 0 16
    w.extractLsb' 15 1 = 0#1 ∧ w.extractLsb' 7 8 = b ∧ w.extractLsb' 0 7 = 0#7 := by decide +kernel

theorem exponent_fields : ∀ b : BitVec 8,
    IntOp.cmpi .slt (IntOp.subi (b.setWidth 32) 127#32) 4294967170#32 = (if b.toNat = 0 then 1#1 else 0#1)
    ∧ IntOp.cmpi .sgt (IntOp.subi (b.setWidth 32) 127#32) 127#32 = (if b.toNat = 255 then 1#1 else 0#1)
    ∧ (IntOp.subi (b.setWidth 32) 127#32).toInt = (b.toNat : ℤ) - 127 := by decide +kernel

theorem ofBits_two : Ideal.ofBits .f32 0x40000000#32 = ((2 : ℝ) : EReal) := by
  simp [Ideal.ofBits, Ideal.ieee, zpow_neg]
  rw [← EReal.coe_mul]; norm_num

theorem ofBits_inf : Ideal.ofBits .f32 0x7F800000#32 = ⊤ := by
  simp [Ideal.ofBits, Ideal.ieee]

/-- The kernel's scale is the reference's power of two. -/
theorem scale_eq (b : BitVec 8) : scale b = power b := by
  obtain ⟨k1, k2, k3⟩ := scale_fields b
  obtain ⟨e1, e2, e3⟩ := exponent_fields b
  have n1 : (((scaleWord b).extractLsb' 0 16).extractLsb' 15 1 == 1#1) = false := by rw [k1]; rfl
  unfold scale power
  rw [e1, e2, e3, ofBits_two, ofBits_inf, Ideal.ofBits_zero_f32]
  simp only [Ideal.ofBits, Ideal.ieee, Nat.reduceAdd, Nat.reducePow, Nat.reduceSub, n1, k2, k3, Scalar.select]
  by_cases h0 : b.toNat = 0
  · simp [h0]
  · by_cases h255 : b.toNat = 255
    · simp [h255]
    · simp only [h0, h255, if_false, Ideal.pow_coe_coe]
      have hz : Real.rpow 2 (((b.toNat : ℤ) - 127 : ℤ) : ℝ) = (2 : ℝ) ^ ((b.toNat : ℤ) - 127) := Real.rpow_intCast 2 _
      rw [if_neg (by decide), if_neg (by decide), hz]
      congr 1
      rw [one_mul]
      rw [show ((128 + (0#7).toNat : ℕ) : ℝ) = (2 : ℝ) ^ (7 : ℤ) by norm_num, ← zpow_add₀ (by norm_num)]
      congr 1
      norm_num

end Cert.Equation
-- ==== Proof.Equation.lean ====
/-
  The equation: the kernel's array and the reference's are the same.  The kernel's sum over 10496 reordered positions
  is split by parity; an even position pairs the low code of a byte with the first half block, an odd one the high code
  with the second.
-/
module

public import proofs.«01_k».proof.Proof.Bytes
public import proofs.«01_k».proof.Proof.Blocks

@[expose] public section

noncomputable section

namespace Cert.Equation

open Cert.KernelIdeal Cert.KernelIdeal.Gen Cert.KernelIdeal.Body
open Idealize.ShloMosaic Idealize.ShloMosaic.ValueIdx Idealize.ShloMosaic.StableHlo
open Idealize.ShloMosaic.TcCoe
open scoped BigOperators

/-- A sum over 10496 positions, by pairs. -/
theorem sum_pairs (f : Fin 10496 → EReal) :
    ∑ k, f k = (∑ p : Fin 5248, f ⟨2 * p.val, by omega⟩) + ∑ p : Fin 5248, f ⟨2 * p.val + 1, by omega⟩ := by
  rw [← Finset.sum_add_distrib]
  rw [← Equiv.sum_comp (finProdFinEquiv (m := 5248) (n := 2)) f, Fintype.sum_prod_type]
  refine Finset.sum_congr rfl fun p _ => ?_
  rw [Fin.sum_univ_two]
  refine congrArg₂ (· + ·) (congrArg f (Fin.ext ?_)) (congrArg f (Fin.ext ?_))
  · exact (show 0 + 2 * p.val = 2 * p.val by omega)
  · exact (show 1 + 2 * p.val = 2 * p.val + 1 by omega)

variable (m : (ℓ : Loc nD τ sig) → Buf (Elt Ideal) ℓ) (c : Dev nD)

/-- The activations as launched, the codes and the scales. -/
def x0 : Vec Ideal S64x1x10496 .bf16 := m ((c : Thread nD τ).loc main_arg0)
def x1 : Vec Ideal S24448x5248 .i8 := m ((c : Thread nD τ).loc main_arg1)
def x2 : Vec Ideal S24448x328 .i8 := m ((c : Thread nD τ).loc main_arg2)

theorem xArr_eq : xArr m c = shapeCast _ (x0 m c) shapeCasts_S64x1x10496_S64x10496 := by
  unfold xArr x0
  simp only [V, hostOps0]
  after_results_simp <;> rfl

theorem scaleArr_eq : scaleArr m c = transpose S328x24448 [1, 0] (x2 m c) transposes_S24448x328_S328x24448_1_0 := by
  unfold scaleArr x2
  simp only [V, hostOps0]
  after_results_simp <;> rfl

theorem codeArr_eq : codeArr m c = x1 m c := V_main_arg1 m c

theorem xArr_apply (r : Fin 64) (k : Fin 10496) : xArr m c (ix2 r k) = x0 m c (ix3 r 0 k) := by
  rw [xArr_eq]
  exact shapeCast_apply _ _ (ix2 r k) (ix3 r 0 k) (by
    rw [Shape.rowMajor_val_three, Shape.rowMajor_val_two]
    exact (show (r.val * 1 + 0) * 10496 + k.val = r.val * 10496 + k.val by omega))

theorem scaleArr_apply (b : Fin 328) (n : Fin 24448) : scaleArr m c (ix2 b n) = x2 m c (ix2 n b) := by
  rw [scaleArr_eq]
  exact transpose_apply _ _ _ _ _ (by intro b; match b with | ⟨0, _⟩ => rfl | ⟨1, _⟩ => rfl)

/-- The kernel's array is the reference's. -/
theorem out_eq : out m c = Cert.ReferenceIdeal.Read.val_main_v83 (F := Ideal) (x0 m c) (x1 m c) (x2 m c) := by
  funext i
  obtain ⟨r, n, rfl⟩ : ∃ (r : Fin 64) (n : Fin 24448), i = ix2 r n :=
    ⟨i 0, i 1, by funext a; match a with | ⟨0, _⟩ => rfl | ⟨1, _⟩ => rfl⟩
  rw [Cert.ReferenceIdeal.Body.result_apply]
  unfold out
  rw [sum_pairs]
  refine congrArg₂ (· + ·) (Finset.sum_congr rfl fun p _ => ?_) (Finset.sum_congr rfl fun p _ => ?_)
  · have hx : permutedAll (xArr m c) (ix2 r ⟨2 * p.val, by omega⟩)
        = x0 m c (ix3 r 0 ⟨32 * (p.val / 16) + p.val % 16, by omega⟩) := by
      rw [← xArr_apply]
      refine congrArg (fun k => xArr m c (ix2 r k)) (Fin.ext ?_)
      exact (show 32 * (2 * p.val / 32) + 16 * (2 * p.val % 2) + 2 * p.val % 32 / 2
        = 32 * (p.val / 16) + p.val % 16 by omega)
    have hc : codeArr m c (ix2 n ⟨2 * p.val / 2, by omega⟩) = x1 m c (ix2 n p) := by
      rw [codeArr_eq]
      exact congrArg (fun k => x1 m c (ix2 n k)) (Fin.ext (show 2 * p.val / 2 = p.val by omega))
    have hs : scaleArr m c (ix2 ⟨2 * p.val / 32, by omega⟩ n) = x2 m c (ix2 n ⟨p.val / 16, by omega⟩) := by
      rw [scaleArr_apply]
      exact congrArg (fun k => x2 m c (ix2 n k)) (Fin.ext (show 2 * p.val / 32 = p.val / 16 by omega))
    refine congrArg₂ (· * ·) hx (congrArg₂ (· * ·) ?_ ?_)
    · exact (congrArg₂ weight hc (show 2 * p.val % 2 = 0 by omega)).trans (weight_low _)
    · exact (congrArg scale hs).trans (scale_eq _)
  · have hx : permutedAll (xArr m c) (ix2 r ⟨2 * p.val + 1, by omega⟩)
        = x0 m c (ix3 r 0 ⟨32 * (p.val / 16) + 16 + p.val % 16, by omega⟩) := by
      rw [← xArr_apply]
      refine congrArg (fun k => xArr m c (ix2 r k)) (Fin.ext ?_)
      exact (show 32 * ((2 * p.val + 1) / 32) + 16 * ((2 * p.val + 1) % 2) + (2 * p.val + 1) % 32 / 2
        = 32 * (p.val / 16) + 16 + p.val % 16 by omega)
    have hc : codeArr m c (ix2 n ⟨(2 * p.val + 1) / 2, by omega⟩) = x1 m c (ix2 n p) := by
      rw [codeArr_eq]
      exact congrArg (fun k => x1 m c (ix2 n k)) (Fin.ext (show (2 * p.val + 1) / 2 = p.val by omega))
    have hs : scaleArr m c (ix2 ⟨(2 * p.val + 1) / 32, by omega⟩ n) = x2 m c (ix2 n ⟨p.val / 16, by omega⟩) := by
      rw [scaleArr_apply]
      exact congrArg (fun k => x2 m c (ix2 n k)) (Fin.ext (show (2 * p.val + 1) / 32 = p.val / 16 by omega))
    refine congrArg₂ (· * ·) hx (congrArg₂ (· * ·) ?_ ?_)
    · exact (congrArg₂ weight hc (show (2 * p.val + 1) % 2 = 1 by omega)).trans (weight_high _)
    · exact (congrArg scale hs).trans (scale_eq _)

end Cert.Equation
-- ==== Proof.lean ====
/-
  The claim: both kernels' and the reference's frames, and that the kernel's result is the reference's over the ideal
  floats.
-/
module

public import proofs.«01_k».proof.Defs
public import proofs.«01_k».proof.Proof.KernelRun
public import proofs.«01_k».proof.Proof.IdealRun
public import proofs.«01_k».proof.Proof.Equation
public import proofs.«01_k».proof.Proof.Gen.ReferenceIdeal.Run

@[expose] public section

noncomputable section

namespace Cert.Proof

open Idealize.ShloMosaic Idealize.SL.Sem

theorem frame_kernel : Cert.quiescent_Kernel (hKernel := Cert.Kernel.Gen.facts) :=
  fun m g _ => Cert.Kernel.Body.frame (F := Bits) m g

theorem frame_kernelIdeal : Cert.quiescent_KernelIdeal (hKernelIdeal := Cert.KernelIdeal.Gen.facts) :=
  fun m g _ => (θ_run (Cert.KernelIdeal.defs (F := Ideal)) _ _).mono
    (fun _ h => ⟨fun c => (h.1 c).2, h.2⟩) (Cert.KernelIdeal.Body.run m g)

theorem frame_referenceIdeal : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩)
    (Cert.ReferenceIdeal.Value.run (F := Ideal) m g)

/-- From the same arguments the kernel and the reference end with the same array. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Body.out m c, ?_, ?_⟩
  · exact (θ_run (Cert.KernelIdeal.defs (F := Ideal)) _ _).mono (fun _ h => h.1) (Cert.KernelIdeal.Body.run m g)
  · refine (θ_run (Cert.ReferenceIdeal.defs (F := Ideal)) _ _).mono (fun r h c => ?_)
      (Cert.ReferenceIdeal.Value.run (F := Ideal) m' g')
    obtain ⟨hv, ha⟩ := h c
    refine ⟨hv.trans ?_, ha⟩
    rw [Cert.ReferenceIdeal.Read.val_main_v83_eq, (hargs c).1, (hargs c).2.1, (hargs c).2.2]
    exact (Cert.Equation.out_eq m c).symm

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
